-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨4, ![2, 128, 128, 64]⟩ ⟨4, ![2, 4096, 128, 64]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨4, ![2, 128, 128, 128]⟩ ⟨4, ![2, 4096, 128, 128]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x128x64 : Shape := ⟨4, ![2, 128, 128, 64]⟩
abbrev S64x128 : Shape := ⟨2, ![64, 128]⟩
abbrev S_ : Shape := ⟨0, ![]⟩

class Facts : Prop where
  bcast_S_S2x128x128x64 : S_.BroadcastsInDim S2x128x128x64 (![] : Fin 0 → Fin S2x128x128x64.rank)

variable [Facts]

def fn {F : FTy → Type} [FloatOps F] (main_arg0 : FVec F S2x128x128x64 .f32) (main_arg1 : FVec F S64x128 .f32) : IVec S2x128x128x64 1 :=
  let main_v0 : FVec F S2x128x128x64 .f32 := Host.absf main_arg0
  let main_cst : FVec F S_ .f32 := constant S_ .f32 0x7F800000#32
  let main_v1 : FVec F S2x128x128x64 .f32 := broadcastInDim S2x128x128x64 ![] bcast_S_S2x128x128x64 main_cst
  let main_v2 : IVec S2x128x128x64 1 := cmpf .olt main_v0 main_v1
  main_v2
-- ==== Pre_finite_ReferenceIdeal.lean ====
abbrev S2x4096x128x64 : Shape := ⟨4, ![2, 4096, 128, 64]⟩
abbrev S64x128 : Shape := ⟨2, ![64, 128]⟩
abbrev S_ : Shape := ⟨0, ![]⟩

class Facts : Prop where
  bcast_S_S2x4096x128x64 : S_.BroadcastsInDim S2x4096x128x64 (![] : Fin 0 → Fin S2x4096x128x64.rank)

variable [Facts]

def fn {F : FTy → Type} [FloatOps F] (main_arg0 : FVec F S2x4096x128x64 .f32) (main_arg1 : FVec F S64x128 .f32) : IVec S2x4096x128x64 1 :=
  let main_v0 : FVec F S2x4096x128x64 .f32 := Host.absf main_arg0
  let main_cst : FVec F S_ .f32 := constant S_ .f32 0x7F800000#32
  let main_v1 : FVec F S2x4096x128x64 .f32 := broadcastInDim S2x4096x128x64 ![] bcast_S_S2x4096x128x64 main_cst
  let main_v2 : IVec S2x4096x128x64 1 := cmpf .olt main_v0 main_v1
  main_v2
-- ==== Kernel.lean ====
abbrev S2x128x128x64 : Shape := ⟨4, ![2, 128, 128, 64]⟩
abbrev S64x128 : Shape := ⟨2, ![64, 128]⟩
abbrev S2x128x64x128 : Shape := ⟨4, ![2, 128, 64, 128]⟩
abbrev S_ : Shape := ⟨0, ![]⟩
abbrev S2x128x128x128 : Shape := ⟨4, ![2, 128, 128, 128]⟩
abbrev S2x2x32x128x128 : Shape := ⟨5, ![2, 2, 32, 128, 128]⟩
abbrev S32x2x2x64 : Shape := ⟨4, ![32, 2, 2, 64]⟩
abbrev S32 : Shape := ⟨1, ![32]⟩
abbrev S2 : Shape := ⟨1, ![2]⟩
abbrev S2x64 : Shape := ⟨2, ![2, 64]⟩
abbrev S1x1x2x64 : Shape := ⟨4, ![1, 1, 2, 64]⟩
abbrev S1 : Shape := ⟨1, ![1]⟩
abbrev S1x2x2x64 : Shape := ⟨4, ![1, 2, 2, 64]⟩
abbrev S2x2x64 : Shape := ⟨3, ![2, 2, 64]⟩
abbrev S1x2x64 : Shape := ⟨3, ![1, 2, 64]⟩
abbrev S2x1x64x1 : Shape := ⟨4, ![2, 1, 64, 1]⟩
abbrev S2x32x64x128 : Shape := ⟨4, ![2, 32, 64, 128]⟩
abbrev S2x32x128x64 : Shape := ⟨4, ![2, 32, 128, 64]⟩
abbrev S8192x64 : Shape := ⟨2, ![8192, 64]⟩
abbrev S8192x128 : Shape := ⟨2, ![8192, 128]⟩
abbrev S2x32x128x128 : Shape := ⟨4, ![2, 32, 128, 128]⟩
abbrev S1x2x32x128x128 : Shape := ⟨5, ![1, 2, 32, 128, 128]⟩

abbrev nBuf : Space → Nat
  | .hbm => 6
  | .vmem => 4
  | .smem => 0
  | _ => 0

abbrev bufTy : (tb : Table) → Fin (tcTables nBuf tb) → BufTy
  | .hbm, ⟨0, _⟩ => ⟨S2x128x128x64, .f32⟩
  | .hbm, ⟨1, _⟩ => ⟨S64x128, .f32⟩
  | .hbm, ⟨2, _⟩ => ⟨S2x128x64x128, .f32⟩
  | .hbm, ⟨3, _⟩ => ⟨S_, .f32⟩
  | .hbm, ⟨4, _⟩ => ⟨S2x128x128x128, .f32⟩
  | .hbm, ⟨5, _⟩ => ⟨S2x128x128x128, .f32⟩
  | .local _ .vmem, ⟨0, _⟩ => ⟨S2x128x64x128, .f32⟩
  | .local _ .vmem, ⟨1, _⟩ => ⟨S64x128, .f32⟩
  | .local _ .vmem, ⟨2, _⟩ => ⟨S2x2x32x128x128, .f32⟩
  | .local _ .vmem, ⟨3, _⟩ => ⟨S32x2x2x64, .f32⟩
  | _, _ => ⟨S2x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_136 : BitVec 32 := 1#32
  let v139 : BitVec 32 := Scalar.addi v2 c1_i32_136
  let c32_i32_137 : BitVec 32 := 32#32
  let v140 : BitVec 32 := Scalar.remsi v139 c32_i32_137
  let c1_i32_142 : BitVec 32 := 1#32
  let v141 : BitVec 32 := Scalar.muli v140 c1_i32_142
  let v142 : BitVec 32 := Scalar.addi c0_i32_143 v141
  v142.toNat
def k0_dev33 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_150 : BitVec 32 := 2#32
  let v151 : BitVec 32 := Scalar.addi v2 c2_i32_150
  let c32_i32_151 : BitVec 32 := 32#32
  let v152 : BitVec 32 := Scalar.remsi v151 c32_i32_151
  let c1_i32_156 : BitVec 32 := 1#32
  let v153 : BitVec 32 := Scalar.muli v152 c1_i32_156
  let v154 : BitVec 32 := Scalar.addi c0_i32_157 v153
  v154.toNat
def k0_dev34 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_164 : BitVec 32 := 3#32
  let v163 : BitVec 32 := Scalar.addi v2 c3_i32_164
  let c32_i32_165 : BitVec 32 := 32#32
  let v164 : BitVec 32 := Scalar.remsi v163 c32_i32_165
  let c1_i32_170 : BitVec 32 := 1#32
  let v165 : BitVec 32 := Scalar.muli v164 c1_i32_170
  let v166 : BitVec 32 := Scalar.addi c0_i32_171 v165
  v166.toNat
def k0_dev35 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_178 : BitVec 32 := 4#32
  let v175 : BitVec 32 := Scalar.addi v2 c4_i32_178
  let c32_i32_179 : BitVec 32 := 32#32
  let v176 : BitVec 32 := Scalar.remsi v175 c32_i32_179
  let c1_i32_184 : BitVec 32 := 1#32
  let v177 : BitVec 32 := Scalar.muli v176 c1_i32_184
  let v178 : BitVec 32 := Scalar.addi c0_i32_185 v177
  v178.toNat
def k0_dev36 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_192 : BitVec 32 := 5#32
  let v187 : BitVec 32 := Scalar.addi v2 c5_i32_192
  let c32_i32_193 : BitVec 32 := 32#32
  let v188 : BitVec 32 := Scalar.remsi v187 c32_i32_193
  let c1_i32_198 : BitVec 32 := 1#32
  let v189 : BitVec 32 := Scalar.muli v188 c1_i32_198
  let v190 : BitVec 32 := Scalar.addi c0_i32_199 v189
  v190.toNat
def k0_dev37 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_206 : BitVec 32 := 6#32
  let v199 : BitVec 32 := Scalar.addi v2 c6_i32_206
  let c32_i32_207 : BitVec 32 := 32#32
  let v200 : BitVec 32 := Scalar.remsi v199 c32_i32_207
  let c1_i32_212 : BitVec 32 := 1#32
  let v201 : BitVec 32 := Scalar.muli v200 c1_i32_212
  let v202 : BitVec 32 := Scalar.addi c0_i32_213 v201
  v202.toNat
def k0_dev38 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_220 : BitVec 32 := 7#32
  let v211 : BitVec 32 := Scalar.addi v2 c7_i32_220
  let c32_i32_221 : BitVec 32 := 32#32
  let v212 : BitVec 32 := Scalar.remsi v211 c32_i32_221
  let c1_i32_226 : BitVec 32 := 1#32
  let v213 : BitVec 32 := Scalar.muli v212 c1_i32_226
  let v214 : BitVec 32 := Scalar.addi c0_i32_227 v213
  v214.toNat
def k0_dev39 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_234 : BitVec 32 := 8#32
  let v223 : BitVec 32 := Scalar.addi v2 c8_i32_234
  let c32_i32_235 : BitVec 32 := 32#32
  let v224 : BitVec 32 := Scalar.remsi v223 c32_i32_235
  let c1_i32_240 : BitVec 32 := 1#32
  let v225 : BitVec 32 := Scalar.muli v224 c1_i32_240
  let v226 : BitVec 32 := Scalar.addi c0_i32_241 v225
  v226.toNat
def k0_dev40 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_248 : BitVec 32 := 9#32
  let v235 : BitVec 32 := Scalar.addi v2 c9_i32_248
  let c32_i32_249 : BitVec 32 := 32#32
  let v236 : BitVec 32 := Scalar.remsi v235 c32_i32_249
  let c1_i32_254 : BitVec 32 := 1#32
  let v237 : BitVec 32 := Scalar.muli v236 c1_i32_254
  let v238 : BitVec 32 := Scalar.addi c0_i32_255 v237
  v238.toNat
def k0_dev41 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_262 : BitVec 32 := 10#32
  let v247 : BitVec 32 := Scalar.addi v2 c10_i32_262
  let c32_i32_263 : BitVec 32 := 32#32
  let v248 : BitVec 32 := Scalar.remsi v247 c32_i32_263
  let c1_i32_268 : BitVec 32 := 1#32
  let v249 : BitVec 32 := Scalar.muli v248 c1_i32_268
  let v250 : BitVec 32 := Scalar.addi c0_i32_269 v249
  v250.toNat
def k0_dev42 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_276 : BitVec 32 := 11#32
  let v259 : BitVec 32 := Scalar.addi v2 c11_i32_276
  let c32_i32_277 : BitVec 32 := 32#32
  let v260 : BitVec 32 := Scalar.remsi v259 c32_i32_277
  let c1_i32_282 : BitVec 32 := 1#32
  let v261 : BitVec 32 := Scalar.muli v260 c1_i32_282
  let v262 : BitVec 32 := Scalar.addi c0_i32_283 v261
  v262.toNat
def k0_dev43 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_290 : BitVec 32 := 12#32
  let v271 : BitVec 32 := Scalar.addi v2 c12_i32_290
  let c32_i32_291 : BitVec 32 := 32#32
  let v272 : BitVec 32 := Scalar.remsi v271 c32_i32_291
  let c1_i32_296 : BitVec 32 := 1#32
  let v273 : BitVec 32 := Scalar.muli v272 c1_i32_296
  let v274 : BitVec 32 := Scalar.addi c0_i32_297 v273
  v274.toNat
def k0_dev44 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_304 : BitVec 32 := 13#32
  let v283 : BitVec 32 := Scalar.addi v2 c13_i32_304
  let c32_i32_305 : BitVec 32 := 32#32
  let v284 : BitVec 32 := Scalar.remsi v283 c32_i32_305
  let c1_i32_310 : BitVec 32 := 1#32
  let v285 : BitVec 32 := Scalar.muli v284 c1_i32_310
  let v286 : BitVec 32 := Scalar.addi c0_i32_311 v285
  v286.toNat
def k0_dev45 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_318 : BitVec 32 := 14#32
  let v295 : BitVec 32 := Scalar.addi v2 c14_i32_318
  let c32_i32_319 : BitVec 32 := 32#32
  let v296 : BitVec 32 := Scalar.remsi v295 c32_i32_319
  let c1_i32_324 : BitVec 32 := 1#32
  let v297 : BitVec 32 := Scalar.muli v296 c1_i32_324
  let v298 : BitVec 32 := Scalar.addi c0_i32_325 v297
  v298.toNat
def k0_dev46 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_332 : BitVec 32 := 15#32
  let v307 : BitVec 32 := Scalar.addi v2 c15_i32_332
  let c32_i32_333 : BitVec 32 := 32#32
  let v308 : BitVec 32 := Scalar.remsi v307 c32_i32_333
  let c1_i32_338 : BitVec 32 := 1#32
  let v309 : BitVec 32 := Scalar.muli v308 c1_i32_338
  let v310 : BitVec 32 := Scalar.addi c0_i32_339 v309
  v310.toNat
def k0_dev47 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_346 : BitVec 32 := 16#32
  let v319 : BitVec 32 := Scalar.addi v2 c16_i32_346
  let c32_i32_347 : BitVec 32 := 32#32
  let v320 : BitVec 32 := Scalar.remsi v319 c32_i32_347
  let c1_i32_352 : BitVec 32 := 1#32
  let v321 : BitVec 32 := Scalar.muli v320 c1_i32_352
  let v322 : BitVec 32 := Scalar.addi c0_i32_353 v321
  v322.toNat
def k0_dev48 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_360 : BitVec 32 := 17#32
  let v331 : BitVec 32 := Scalar.addi v2 c17_i32_360
  let c32_i32_361 : BitVec 32 := 32#32
  let v332 : BitVec 32 := Scalar.remsi v331 c32_i32_361
  let c1_i32_366 : BitVec 32 := 1#32
  let v333 : BitVec 32 := Scalar.muli v332 c1_i32_366
  let v334 : BitVec 32 := Scalar.addi c0_i32_367 v333
  v334.toNat
def k0_dev49 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_374 : BitVec 32 := 18#32
  let v343 : BitVec 32 := Scalar.addi v2 c18_i32_374
  let c32_i32_375 : BitVec 32 := 32#32
  let v344 : BitVec 32 := Scalar.remsi v343 c32_i32_375
  let c1_i32_380 : BitVec 32 := 1#32
  let v345 : BitVec 32 := Scalar.muli v344 c1_i32_380
  let v346 : BitVec 32 := Scalar.addi c0_i32_381 v345
  v346.toNat
def k0_dev50 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_388 : BitVec 32 := 19#32
  let v355 : BitVec 32 := Scalar.addi v2 c19_i32_388
  let c32_i32_389 : BitVec 32 := 32#32
  let v356 : BitVec 32 := Scalar.remsi v355 c32_i32_389
  let c1_i32_394 : BitVec 32 := 1#32
  let v357 : BitVec 32 := Scalar.muli v356 c1_i32_394
  let v358 : BitVec 32 := Scalar.addi c0_i32_395 v357
  v358.toNat
def k0_dev51 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_402 : BitVec 32 := 20#32
  let v367 : BitVec 32 := Scalar.addi v2 c20_i32_402
  let c32_i32_403 : BitVec 32 := 32#32
  let v368 : BitVec 32 := Scalar.remsi v367 c32_i32_403
  let c1_i32_408 : BitVec 32 := 1#32
  let v369 : BitVec 32 := Scalar.muli v368 c1_i32_408
  let v370 : BitVec 32 := Scalar.addi c0_i32_409 v369
  v370.toNat
def k0_dev52 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_416 : BitVec 32 := 21#32
  let v379 : BitVec 32 := Scalar.addi v2 c21_i32_416
  let c32_i32_417 : BitVec 32 := 32#32
  let v380 : BitVec 32 := Scalar.remsi v379 c32_i32_417
  let c1_i32_422 : BitVec 32 := 1#32
  let v381 : BitVec 32 := Scalar.muli v380 c1_i32_422
  let v382 : BitVec 32 := Scalar.addi c0_i32_423 v381
  v382.toNat
def k0_dev53 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_430 : BitVec 32 := 22#32
  let v391 : BitVec 32 := Scalar.addi v2 c22_i32_430
  let c32_i32_431 : BitVec 32 := 32#32
  let v392 : BitVec 32 := Scalar.remsi v391 c32_i32_431
  let c1_i32_436 : BitVec 32 := 1#32
  let v393 : BitVec 32 := Scalar.muli v392 c1_i32_436
  let v394 : BitVec 32 := Scalar.addi c0_i32_437 v393
  v394.toNat
def k0_dev54 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_444 : BitVec 32 := 23#32
  let v403 : BitVec 32 := Scalar.addi v2 c23_i32_444
  let c32_i32_445 : BitVec 32 := 32#32
  let v404 : BitVec 32 := Scalar.remsi v403 c32_i32_445
  let c1_i32_450 : BitVec 32 := 1#32
  let v405 : BitVec 32 := Scalar.muli v404 c1_i32_450
  let v406 : BitVec 32 := Scalar.addi c0_i32_451 v405
  v406.toNat
def k0_dev55 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_458 : BitVec 32 := 24#32
  let v415 : BitVec 32 := Scalar.addi v2 c24_i32_458
  let c32_i32_459 : BitVec 32 := 32#32
  let v416 : BitVec 32 := Scalar.remsi v415 c32_i32_459
  let c1_i32_464 : BitVec 32 := 1#32
  let v417 : BitVec 32 := Scalar.muli v416 c1_i32_464
  let v418 : BitVec 32 := Scalar.addi c0_i32_465 v417
  v418.toNat
def k0_dev56 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_472 : BitVec 32 := 25#32
  let v427 : BitVec 32 := Scalar.addi v2 c25_i32_472
  let c32_i32_473 : BitVec 32 := 32#32
  let v428 : BitVec 32 := Scalar.remsi v427 c32_i32_473
  let c1_i32_478 : BitVec 32 := 1#32
  let v429 : BitVec 32 := Scalar.muli v428 c1_i32_478
  let v430 : BitVec 32 := Scalar.addi c0_i32_479 v429
  v430.toNat
def k0_dev57 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_486 : BitVec 32 := 26#32
  let v439 : BitVec 32 := Scalar.addi v2 c26_i32_486
  let c32_i32_487 : BitVec 32 := 32#32
  let v440 : BitVec 32 := Scalar.remsi v439 c32_i32_487
  let c1_i32_492 : BitVec 32 := 1#32
  let v441 : BitVec 32 := Scalar.muli v440 c1_i32_492
  let v442 : BitVec 32 := Scalar.addi c0_i32_493 v441
  v442.toNat
def k0_dev58 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_500 : BitVec 32 := 27#32
  let v451 : BitVec 32 := Scalar.addi v2 c27_i32_500
  let c32_i32_501 : BitVec 32 := 32#32
  let v452 : BitVec 32 := Scalar.remsi v451 c32_i32_501
  let c1_i32_506 : BitVec 32 := 1#32
  let v453 : BitVec 32 := Scalar.muli v452 c1_i32_506
  let v454 : BitVec 32 := Scalar.addi c0_i32_507 v453
  v454.toNat
def k0_dev59 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_514 : BitVec 32 := 28#32
  let v463 : BitVec 32 := Scalar.addi v2 c28_i32_514
  let c32_i32_515 : BitVec 32 := 32#32
  let v464 : BitVec 32 := Scalar.remsi v463 c32_i32_515
  let c1_i32_520 : BitVec 32 := 1#32
  let v465 : BitVec 32 := Scalar.muli v464 c1_i32_520
  let v466 : BitVec 32 := Scalar.addi c0_i32_521 v465
  v466.toNat
def k0_dev60 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_528 : BitVec 32 := 29#32
  let v475 : BitVec 32 := Scalar.addi v2 c29_i32_528
  let c32_i32_529 : BitVec 32 := 32#32
  let v476 : BitVec 32 := Scalar.remsi v475 c32_i32_529
  let c1_i32_534 : BitVec 32 := 1#32
  let v477 : BitVec 32 := Scalar.muli v476 c1_i32_534
  let v478 : BitVec 32 := Scalar.addi c0_i32_535 v477
  v478.toNat
def k0_dev61 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_542 : BitVec 32 := 30#32
  let v487 : BitVec 32 := Scalar.addi v2 c30_i32_542
  let c32_i32_543 : BitVec 32 := 32#32
  let v488 : BitVec 32 := Scalar.remsi v487 c32_i32_543
  let c1_i32_548 : BitVec 32 := 1#32
  let v489 : BitVec 32 := Scalar.muli v488 c1_i32_548
  let v490 : BitVec 32 := Scalar.addi c0_i32_549 v489
  v490.toNat
def k0_dev62 (d0 : Dev nD) : Nat :=
  let c0_i32_563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_556 : BitVec 32 := 31#32
  let v499 : BitVec 32 := Scalar.addi v2 c31_i32_556
  let c32_i32_557 : BitVec 32 := 32#32
  let v500 : BitVec 32 := Scalar.remsi v499 c32_i32_557
  let c1_i32_562 : BitVec 32 := 1#32
  let v501 : BitVec 32 := Scalar.muli v500 c1_i32_562
  let v502 : BitVec 32 := Scalar.addi c0_i32_563 v501
  v502.toNat
abbrev stage0_0 : Fin 1 → Memref sig .tc .vmem S2x128x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x4096x128x64 : Shape := ⟨4, ![2, 4096, 128, 64]⟩
abbrev S64x128 : Shape := ⟨2, ![64, 128]⟩
abbrev S_ : Shape := ⟨0, ![]⟩
abbrev S2x64 : Shape := ⟨2, ![2, 64]⟩
abbrev S2x1x1x64 : Shape := ⟨4, ![2, 1, 1, 64]⟩
abbrev S1048576x64 : Shape := ⟨2, ![1048576, 64]⟩
abbrev S1048576x128 : Shape := ⟨2, ![1048576, 128]⟩
abbrev S2x4096x128x128 : Shape := ⟨4, ![2, 4096, 128, 128]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x128x64, .f32⟩
  | .hbm, ⟨1, _⟩ => ⟨S64x128, .f32⟩
  | .hbm, ⟨2, _⟩ => ⟨S_, .f32⟩
  | .hbm, ⟨3, _⟩ => ⟨S2x64, .f32⟩
  | .hbm, ⟨4, _⟩ => ⟨S2x1x1x64, .f32⟩
  | .hbm, ⟨5, _⟩ => ⟨S_, .f32⟩
  | .hbm, ⟨6, _⟩ => ⟨S2x1x1x64, .f32⟩
  | .hbm, ⟨7, _⟩ => ⟨S2x1x1x64, .f32⟩
  | .hbm, ⟨8, _⟩ => ⟨S_, .i32⟩
  | .hbm, ⟨9, _⟩ => ⟨S_, .f32⟩
  | .hbm, ⟨10, _⟩ => ⟨S2x64, .f32⟩
  | .hbm, ⟨11, _⟩ => ⟨S2x1x1x64, .f32⟩
  | .hbm, ⟨12, _⟩ => ⟨S_, .f32⟩
  | .hbm, ⟨13, _⟩ => ⟨S2x1x1x64, .f32⟩
  | .hbm, ⟨14, _⟩ => ⟨S2x1x1x64, .f32⟩
  | .hbm, ⟨15, _⟩ => ⟨S2x4096x128x64, .f32⟩
  | .hbm, ⟨16, _⟩ => ⟨S2x4096x128x64, .f32⟩
  | .hbm, ⟨17, _⟩ => ⟨S2x4096x128x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x64, .f32⟩
  | .hbm, ⟨23, _⟩ => ⟨S2x1x1x64, .f32⟩
  | .hbm, ⟨24, _⟩ => ⟨S2x1x1x64, .f32⟩
  | .hbm, ⟨25, _⟩ => ⟨S2x1x1x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x64, .f32⟩
  | .hbm, ⟨31, _⟩ => ⟨S2x1x1x64, .f32⟩
  | .hbm, ⟨32, _⟩ => ⟨S2x4096x128x64, .f32⟩
  | .hbm, ⟨33, _⟩ => ⟨S2x4096x128x64, .f32⟩
  | .hbm, ⟨34, _⟩ => ⟨S_, .f32⟩
  | .hbm, ⟨35, _⟩ => ⟨S2x1x1x64, .f32⟩
  | .hbm, ⟨36, _⟩ => ⟨S2x1x1x64, .f32⟩
  | .hbm, ⟨37, _⟩ => ⟨S2x1x1x64, .f32⟩
  | .hbm, ⟨38, _⟩ => ⟨S2x4096x128x64, .f32⟩
  | .hbm, ⟨39, _⟩ => ⟨S2x4096x128x64, .f32⟩
  | .hbm, ⟨40, _⟩ => ⟨S2x4096x128x64, .f32⟩
  | .hbm, ⟨41, _⟩ => ⟨S2x4096x128x64, .f32⟩
  | .hbm, ⟨42, _⟩ => ⟨S_, .f32⟩
  | .hbm, ⟨43, _⟩ => ⟨S2x4096x128x64, .f32⟩
  | .hbm, ⟨44, _⟩ => ⟨S2x4096x128x64, .f32⟩
  | .hbm, ⟨45, _⟩ => ⟨S2x4096x128x64, .f32⟩
  | .hbm, ⟨46, _⟩ => ⟨S1048576x64, .f32⟩
  | .hbm, ⟨47, _⟩ => ⟨S1048576x128, .f32⟩
  | .hbm, ⟨48, _⟩ => ⟨S2x4096x128x128, .f32⟩
  | _, _ => ⟨S2x4096x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]
-- ==== Proof.Program.lean ====
/- The kernel's body as three loops over the thirty-one offsets and a tail: the signals, the sends and the waits each as one
   fold, with the views and counters named by their number. The equality with the printed body is definitional. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Stats

open Idealize.ShloMosaic Idealize.SL.Sem
open Idealize.ShloMosaic.TcCoe
open Cert.KernelIdeal Cert.KernelIdeal.Gen

variable {F : FTy → Type} [FloatOps F]

/-- The body's operands, each a whole buffer. -/
abbrev xM : Memref sig .tc .vmem S2x128x64x128 .f32 := Memref.whole cc0_stg0_0
abbrev wM : Memref sig .tc .vmem S64x128 .f32 := Memref.whole cc0_stg1_0
abbrev oM : Memref sig .tc .hbm S2x128x128x128 .f32 := Memref.whole main_v3
abbrev bM : Memref sig .tc .vmem S2x2x32x128x128 .f32 := Memref.whole cc0_scratch0
abbrev cM : Memref sig .tc .vmem S32x2x2x64 .f32 := Memref.whole cc0_scratch1

theorem inb_slot (d : Fin 32) : ∀ a, (![d.val, 0, 0, 0] : Fin 4 → Nat) a + S1x2x2x64.size a ≤ S32x2x2x64.size a := by
  revert d; decide
theorem inb_cell (d : Fin 32) : ∀ a, (![d.val] : Fin 1 → Nat) a + S1.size a ≤ S32.size a := by revert d; decide

theorem inb_st (s : Fin 2) : ∀ a, (![s.val] : Fin 1 → Nat) a + S1.size a ≤ S2.size a := by revert s; decide
theorem inb_pack (s : Fin 2) : ∀ a, (![s.val, 0, 0, 0, 0] : Fin 5 → Nat) a + S1x2x32x128x128.size a ≤ S2x2x32x128x128.size a := by
  revert s; decide
theorem inb_rows (j : Fin 4) : ∀ a, (![0, 32 * j.val, 0, 0] : Fin 4 → Nat) a + S2x32x128x128.size a ≤ S2x128x128x128.size a := by
  revert j; decide
theorem inb_xrows (j : Fin 4) : ∀ a, (![0, 32 * j.val, 0, 0] : Fin 4 → Nat) a + S2x32x64x128.size a ≤ S2x128x64x128.size a := by
  revert j; decide

/-- Slot `d` of the exchange buffer, as the copies address it. -/
abbrev slotR (d : Fin 32) : Rect S32x2x2x64 := Rect.unit ![d.val, 0, 0, 0] S1x2x2x64.size (inb_slot d)
abbrev slotM (d : Fin 32) : Memref sig .tc .vmem S2x2x64 .f32 :=
  (cM.slice (slotR d) (fun _ => rfl)).squeeze S2x2x64 squeezes_S1x2x2x64_S2x2x64
/-- The counters of offset `d`, and the counter of output slot `s`. -/
abbrev sendS (d : Fin 32) : DmaSem sig := ((cc0_scratch2.slice (Rect.unit (s := S32) ![d.val] S1.size (inb_cell d))).squeeze S_ squeezes_S1_S_).sem
abbrev recvS (d : Fin 32) : DmaSem sig := ((cc0_scratch3.slice (Rect.unit (s := S32) ![d.val] S1.size (inb_cell d))).squeeze S_ squeezes_S1_S_).sem
abbrev stS (s : Fin 2) : DmaSem sig := ((cc0_scratch4.slice (Rect.unit (s := S2) ![s.val] S1.size (inb_st s))).squeeze S_ squeezes_S1_S_).sem
abbrev barS : Sem sig := sig.barrier 0 rfl

/-- The staging slot `s` of the output, as the store addresses it and as the copy out reads it. -/
abbrev packR (s : Fin 2) : Rect S2x2x32x128x128 := Rect.unit ![s.val, 0, 0, 0, 0] S1x2x32x128x128.size (inb_pack s)
abbrev packM (s : Fin 2) : Memref sig .tc .vmem S2x32x128x128 .f32 :=
  (bM.slice (packR s) (fun _ => rfl)).squeeze S2x32x128x128 squeezes_S1x2x32x128x128_S2x32x128x128
/-- Rows `32 j … 32 j + 31` of the result, and of the operand. -/
abbrev rowsM (j : Fin 4) : Memref sig .tc .hbm S2x32x128x128 .f32 :=
  oM.slice (Rect.unit (s := S2x128x128x128) ![0, 32 * j.val, 0, 0] S2x32x128x128.size (inb_rows j)) (fun _ => rfl)
abbrev xR (j : Fin 4) : Rect S2x128x64x128 := Rect.unit ![0, 32 * j.val, 0, 0] S2x32x64x128.size (inb_xrows j)

/-- The device the kernel computes from its own number and an offset. -/
def devN (d : Fin 32) (c : Dev nD) : Nat :=
  (Scalar.addi 0#32 (Scalar.muli (Scalar.remsi (Scalar.addi (Scalar.remsi (Scalar.divsi (Dev.word c) 1#32) 32#32) (BitVec.ofNat 32 d.val)) 32#32) 1#32)).toNat
theorem devN_eq : ∀ (c : Dev nD) (d : Fin 32), devN d c = (c.val + d.val) % 32 := by decide +kernel
theorem devN_lt (d : Fin 32) (c : Dev nD) : devN d c < nD := by rw [devN_eq]; exact Nat.mod_lt _ (by decide)

abbrev PP (F : FTy → Type) : Type 1 := Prog (TpuEff nD τ sig (Elt F) Λ₀ .tc) PUnit

/-- Tell the device at offset `d` that this one has come, and go on. -/
def sigStep (c : Dev nD) (d : Fin 32) (k : PP F) : PP F :=
  .op (.semSignal (Dev.tc (⟨devN d c, devN_lt d c⟩ : Dev nD)) barS (1#32).toInt) fun _ => k
/-- Start the copy of slot 0 into slot `d` of the device at offset `d`, and go on. -/
def sendStep (c : Dev nD) (d : Fin 32) (k : PP F) : PP F :=
  .op (.enqueueDma (slotM 0) (.remote (Dev.tc (⟨devN d c, devN_lt d c⟩ : Dev nD)) (slotM d) (.dma (sendS d))) (.dma (recvS d))
    ((View.wordExact_bits rfl).reshape _ _) ((View.wordExact_bits rfl).reshape _ _) ⟨⟨rfl, Or.inl rfl⟩, trivial⟩) fun _ => k
/-- Wait for the copy sent at offset `d` to have left, then for the one received there, and go on. -/
def waitStep (d : Fin 32) (k : PP F) : PP F :=
  .op (.waitDma2 (sendS d) (slotM d) (slotM 0) ((View.wordExact_bits rfl).reshape _ _) ((View.wordExact_bits rfl).reshape _ _)) fun _ =>
  .op (.waitDma2 (recvS d) (slotM 0) (slotM d) ((View.wordExact_bits rfl).reshape _ _) ((View.wordExact_bits rfl).reshape _ _)) fun _ => k

/-- The offsets in the kernel's order. -/
def offs : List (Fin 32) := [1, 2, 3, 4, 5, 6, 7, 8, 9, 10, 11, 12, 13, 14, 15, 16, 17, 18, 19, 20, 21, 22, 23, 24, 25, 26, 27, 28, 29, 30, 31]

/-- One chunk: read rows `j` of the operand and the weights, compute, store in staging slot `s`, start the copy out. -/
def chunkStep (j : Fin 4) (s : Fin 2) (p6 p7 : FVec F S2x1x64x1 .f32) (k : PP F) : PP F :=
  .op (.load xM (xR j).toLoadRect (View.loadsAt_vmem h_S2x32x64x128)) fun v =>
  .op (.load wM (Rect.unit (s := S64x128) ![0, 0] S64x128.size inb_S64x128_S64x128_0_0).toLoadRect (View.loadsAt_vmem h_S64x128)) fun w =>
  .op (.load bM (packR s).toLoadRect (View.loadsAt_vmem h_S1x2x32x128x128)) fun _ =>
  .op (.store bM (packR s) (k0_pay9 p6 p7 v w) Finset.univ (View.stores_vmem_bits_univ h_S1x2x32x128x128 rfl) (.inl rfl)) fun _ =>
  .op (.enqueueDma (packM s) (.here (rowsM j)) (.dma (stS s)) ((View.wordExact_bits rfl).reshape _ _) (View.wordExact_bits rfl) ⟨Or.inl rfl, trivial⟩) fun _ => k
/-- Wait for the copy out of rows `j` from staging slot `s`. -/
def outStep (j : Fin 4) (s : Fin 2) (k : PP F) : PP F :=
  .op (.waitDma2 (stS s) (packM s) (rowsM j) ((View.wordExact_bits rfl).reshape _ _) (View.wordExact_bits rfl)) fun _ => k

/-- The body: signals, own sums into slot 0, the barrier wait, the sends, the waits, the sum over the slots, the four chunks. -/
def prog : PP F :=
  .op .deviceId fun c =>
  offs.foldr (sigStep c) <|
  .op (.load xM (Rect.unit (s := S2x128x64x128) ![0, 0, 0, 0] S2x128x64x128.size inb_S2x128x64x128_S2x128x64x128_0_0_0_0).toLoadRect (View.loadsAt_vmem h_S2x128x64x128)) fun x =>
  .op (.load cM (Rect.unit (s := S32x2x2x64) ![0, 0, 0, 0] S1x1x2x64.size inb_S32x2x2x64_S1x1x2x64_0_0_0_0).toLoadRect (View.loadsAt_vmem h_S1x1x2x64)) fun _ =>
  .op (.store cM (Rect.unit (s := S32x2x2x64) ![0, 0, 0, 0] S1x1x2x64.size inb_S32x2x2x64_S1x1x2x64_0_0_0_0) (k0_pay2 x) Finset.univ (View.stores_vmem_bits_univ h_S1x1x2x64 rfl) (.inl rfl)) fun _ =>
  .op (.load cM (Rect.unit (s := S32x2x2x64) ![0, 1, 0, 0] S1x1x2x64.size inb_S32x2x2x64_S1x1x2x64_0_1_0_0).toLoadRect (View.loadsAt_vmem h_S1x1x2x64)) fun _ =>
  .op (.store cM (Rect.unit (s := S32x2x2x64) ![0, 1, 0, 0] S1x1x2x64.size inb_S32x2x2x64_S1x1x2x64_0_1_0_0) (k0_pay3 x) Finset.univ (View.stores_vmem_bits_univ h_S1x1x2x64 rfl) (.inl rfl)) fun _ =>
  .op (.semWait barS (31#32).toInt) fun _ =>
  offs.foldr (sendStep c) <|
  offs.foldr waitStep <|
  .op (.load cM (Rect.unit (s := S32x2x2x64) ![0, 0, 0, 0] S32x2x2x64.size inb_S32x2x2x64_S32x2x2x64_0_0_0_0).toLoadRect (View.loadsAt_vmem h_S32x2x2x64)) fun v =>
  chunkStep 0 0 (k0_pay6 (k0_pay4 v)) (k0_pay7 (k0_pay4 v)) <|
  chunkStep 1 1 (k0_pay6 (k0_pay4 v)) (k0_pay7 (k0_pay4 v)) <|
  outStep 0 0 <|
  chunkStep 2 0 (k0_pay6 (k0_pay4 v)) (k0_pay7 (k0_pay4 v)) <|
  outStep 1 1 <|
  chunkStep 3 1 (k0_pay6 (k0_pay4 v)) (k0_pay7 (k0_pay4 v)) <|
  outStep 2 0 <|
  outStep 3 1 <|
  .ret ⟨⟩

set_option maxRecDepth 1000000 in
set_option maxHeartbeats 4000000 in
/-- The printed body is `prog`. -/
theorem body_eq (t : Fin cfg0.N) : bodyAt0 (F := F) t = prog := by
  rfl

end Cert.KernelIdeal.Stats

end
-- ==== Proof.Cells.lean ====
/- The exchange's protocol: what every buffer slice holds, who pays which counter with what, and in which order a device may
   wait.

   On device `c`, at offset `d ≠ 0`:
   * the barrier counter takes one unit from each of the thirty-one other devices; device `c + e` pays with its own slot `e`
     (at any contents) and with the fact that its receive counter at `e` is open: what `c` needs for its copy to `c + e`;
   * the send counter `d` takes the bytes of the copy to `c + d`, and gives back the share of slot 0 that the copy read;
   * the receive counter `d` takes the bytes of the copy from `c - d`, and gives slot `d` at that device's own sums;
   * the store counter `s` takes the bytes of two local copies, first of rows `s`, then of rows `s + 2`, and gives each time
     the rows at the chunk's values and the staging slot back. -/
module

public import Idealize.ShloMosaic.Lib.Pipeline.Regions
public import Idealize.ShloMosaic.Lib.Pipeline.Kit
public import Idealize.ShloMosaic.Lib.Rounds
public import Idealize.ShloMosaic.Lib.Transfers
public import Idealize.ShloMosaic.Lib.Memref
public import Idealize.ShloMosaic.Lib.StableHlo
public import Idealize.ShloMosaic.Lib.Tactic
public import Idealize.ShloMosaic.PureOps
public import Idealize.ShloMosaic.Lib.Pipeline.RegionTalk
public import Idealize.ShloMosaic.Harness.Basic
public import proofs.«01_k».proof.Proof.Program

@[expose] public section

noncomputable section

namespace Cert.KernelIdeal.Stats

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

/-- The pipeline's ghost state and the exchange's. -/
abbrev UU : Type := UR sig nD τ × URounds (GSem nD τ sig) (Fin 32)

local notation "𝕄" => MT nD τ sig Unit (Elt F) ℕ UU ℕ

abbrev EP : Emb (UR sig nD τ) (MT nD τ sig Unit (Elt F) ℕ UU ℕ) := embL
abbrev ER : Emb (URounds (GSem nD τ sig) (Fin 32)) (MT nD τ sig Unit (Elt F) ℕ UU ℕ) := embR

/-! ## Contents -/

/-- An index of a rank-4 shape from its coordinates. -/
def ix4 {p q r t : ℕ} (a : Fin p) (b : Fin q) (c : Fin r) (d : Fin t) : (⟨4, ![p, q, r, t]⟩ : Shape).Idx
  | 0 => a | 1 => b | 2 => c | 3 => d
/-- An index of a rank-5 shape from its coordinates. -/
def ix5 {p q r t u : ℕ} (a : Fin p) (b : Fin q) (c : Fin r) (d : Fin t) (e : Fin u) : (⟨5, ![p, q, r, t, u]⟩ : Shape).Idx
  | 0 => a | 1 => b | 2 => c | 3 => d | 4 => e

/-- A device's own sums, as slot 0 holds them: row 0 the sums, row 1 the sums of squares. -/
def stat (x : Vec F S2x128x64x128 .f32) : Vec F S1x2x2x64 .f32 := fun i =>
  if (i 1).val = 0 then k0_pay2 x (ix4 (0 : Fin 1) (0 : Fin 1) (i 2) (i 3)) else k0_pay3 x (ix4 (0 : Fin 1) (0 : Fin 1) (i 2) (i 3))
/-- The same, as the copies address the slot. -/
def statS (x : Vec F S2x128x64x128 .f32) : Vec F S2x2x64 .f32 := fun y => stat x (Shape.reshapeEquiv squeezes_S1x2x2x64_S2x2x64.numel_eq y)

variable (X : Dev nD → Vec F S2x128x64x128 .f32) (Wt : Dev nD → Vec F S64x128 .f32)

/-- The slot an index of the exchange buffer lies in. -/
def slotOf (i : S32x2x2x64.Idx) : Fin 32 := i 0
/-- Device `c`'s exchange buffer when all has landed: slot `d` holds the sums of device `c - d`. -/
def allStat (c : Dev nD) : Vec F S32x2x2x64 .f32 := fun i => stat (X (c - slotOf i)) (ix4 (0 : Fin 1) (i 1) (i 2) (i 3))
/-- Chunk `j` of device `c`'s result, as stored in a staging slot. -/
def chunk (c : Dev nD) (j : Fin 4) : Vec F S1x2x32x128x128 .f32 :=
  k0_pay9 (k0_pay6 (k0_pay4 (allStat X c))) (k0_pay7 (k0_pay4 (allStat X c))) (fun y => X c ((xR j).emb y)) (Wt c)
/-- The same, as the copy out addresses it. -/
def chunkS (c : Dev nD) (j : Fin 4) : Vec F S2x32x128x128 .f32 :=
  fun y => chunk X Wt c j (Shape.reshapeEquiv squeezes_S1x2x32x128x128_S2x32x128x128.numel_eq y)

/-! ## Memrefs owned -/

section Owns

variable {sp : Space} {sh sh' : Shape} {e : EltTy} (c : Thread nD τ)

omit [FloatOps F] in
/-- A squeezed memref is owned where the memref is, at the reindexed contents. -/
theorem owns_squeeze (m : Memref sig c.2.kind sp sh e) (h : sh.Squeezes sh') (q : PosShare TreeShare) (Y : sh.Idx → Elt F e) :
    (owns c (m.squeeze sh' h) q (fun y => Y (Shape.reshapeEquiv h.numel_eq y)) : sProp 𝕄) = owns c m q Y := by
  have hr (f : m.view.ty.Contents (Elt F)) : (m.squeeze sh' h).view.read (Elt F) f
      = fun y => m.view.read (Elt F) f (Shape.reshapeEquiv h.numel_eq y) := rfl
  have hs : (m.squeeze sh' h).view.set = m.view.set := View.set_reshape _ h.numel_eq
  have h₁ : owns c (m.squeeze sh' h) q (fun y => Y (Shape.reshapeEquiv h.numel_eq y)) ⊢ (owns c m q Y : sProp 𝕄) := by
    unfold owns
    iintro ⟨%f, %hf, H⟩
    iexists f
    isplitr
    · ipureintro
      rw [hr] at hf
      funext y
      have := congrFun hf ((Shape.reshapeEquiv h.numel_eq).symm y)
      simpa only [Equiv.apply_symm_apply] using this
    · rw [hs]; iexact H
  have h₂ : owns c m q Y ⊢ (owns c (m.squeeze sh' h) q (fun y => Y (Shape.reshapeEquiv h.numel_eq y)) : sProp 𝕄) := by
    unfold owns
    iintro ⟨%f, %hf, H⟩
    iexists f
    isplitr
    · ipureintro; rw [hr, hf]
    · rw [hs]; iexact H
  exact BI.equiv_iff.mp ⟨h₁, h₂⟩

omit [FloatOps F] in
/-- Owned contents, read through any buffer contents that show them. -/
theorem owns_at (m : Memref sig c.2.kind sp sh e) (q : PosShare TreeShare) {Y : sh.Idx → Elt F e} {g : m.view.ty.Contents (Elt F)}
    (h : m.view.read (Elt F) g = Y) : (owns c m q Y : sProp 𝕄) = m.view.loc c ↦[m.view.set]{q} g := by
  subst h
  have h₁ : owns c m q (m.view.read (Elt F) g) ⊢ (m.view.loc c ↦[m.view.set]{q} g : sProp 𝕄) := by
    unfold owns
    iintro ⟨%f, %hf, H⟩
    rw [show (m.view.loc c ↦[m.view.set]{q} g : sProp 𝕄) = m.view.loc c ↦[m.view.set]{q} f from
      pointsTo_congr fun i hi => by
        rw [View.set, Finset.mem_map] at hi
        obtain ⟨x, -, rfl⟩ := hi
        have := congrFun hf x
        simp only [View.read] at this
        exact ((cast_inj _).mp this).symm]
    iexact H
  exact BI.equiv_iff.mp ⟨h₁, owns_intro c m q g⟩

omit [FloatOps F] in
/-- What a copy leaves is owned at what it copied. -/
theorem owns_written (m : Memref sig c.2.kind sp sh e) (fd : m.view.ty.Contents (Elt F)) (w : sh.Idx → Elt F e) :
    (m.view.loc c ↦[m.view.set]{fullShare} (m.view.write (Elt F) fd w Finset.univ) : sProp 𝕄) ⊢ owns c m fullShare w := by
  refine (owns_intro c m fullShare _).trans (Entails.of_eq ?_)
  rw [View.read_write_univ]

end Owns

/-! ## Slots, staging slots and rows are disjoint and cover -/

theorem slot_disj (t t' : Fin 32) (h : t ≠ t') : Disjoint (slotR t).set (slotR t').set :=
  Rect.unit_disjoint (0 : Fin 4) (by
    have : t.val ≠ t'.val := fun e => h (Fin.ext e)
    show t.val + 1 ≤ t'.val ∨ t'.val + 1 ≤ t.val
    omega)
theorem slot_cov : (Finset.univ : Finset (Fin 32)).biUnion (fun t => (slotR t).set) = Finset.univ := by
  ext i
  simp only [Finset.mem_biUnion, Finset.mem_univ, true_and, iff_true]
  refine ⟨i 0, Rect.mem_set_unit.mpr fun a => ?_⟩
  have := (i a).isLt
  fin_cases a
  · exact ⟨le_refl _, Nat.lt_succ_self _⟩
  all_goals exact ⟨Nat.zero_le _, by simpa using this⟩

theorem pack_disj (t t' : Fin 2) (h : t ≠ t') : Disjoint (packR t).set (packR t').set :=
  Rect.unit_disjoint (0 : Fin 5) (by
    have : t.val ≠ t'.val := fun e => h (Fin.ext e)
    show t.val + 1 ≤ t'.val ∨ t'.val + 1 ≤ t.val
    omega)
theorem pack_cov : (Finset.univ : Finset (Fin 2)).biUnion (fun t => (packR t).set) = Finset.univ := by
  ext i
  simp only [Finset.mem_biUnion, Finset.mem_univ, true_and, iff_true]
  refine ⟨i 0, Rect.mem_set_unit.mpr fun a => ?_⟩
  have := (i a).isLt
  fin_cases a
  · exact ⟨le_refl _, Nat.lt_succ_self _⟩
  all_goals exact ⟨Nat.zero_le _, by simpa using this⟩

/-- Rows `32 j … 32 j + 31` of the result. -/
abbrev oR (j : Fin 4) : Rect S2x128x128x128 := Rect.unit (s := S2x128x128x128) ![0, 32 * j.val, 0, 0] S2x32x128x128.size (inb_rows j)
theorem rows_disj (t t' : Fin 4) (h : t ≠ t') : Disjoint (oR t).set (oR t').set :=
  Rect.unit_disjoint (1 : Fin 4) (by
    have : t.val ≠ t'.val := fun e => h (Fin.ext e)
    show 32 * t.val + 32 ≤ 32 * t'.val ∨ 32 * t'.val + 32 ≤ 32 * t.val
    omega)
theorem rows_cov : (Finset.univ : Finset (Fin 4)).biUnion (fun t => (oR t).set) = Finset.univ := by
  ext i
  simp only [Finset.mem_biUnion, Finset.mem_univ, true_and, iff_true]
  have h1 : (i 1).val < 128 := (i 1).isLt
  refine ⟨⟨(i 1).val / 32, by omega⟩, Rect.mem_set_unit.mpr fun a => ?_⟩
  have := (i a).isLt
  fin_cases a
  · exact ⟨Nat.zero_le _, by simpa using this⟩
  · show 32 * ((i 1).val / 32) ≤ (i 1).val ∧ (i 1).val < 32 * ((i 1).val / 32) + 32
    omega
  all_goals exact ⟨Nat.zero_le _, by simpa using this⟩

/-! ## The counters -/

abbrev barCell (c : Dev nD) : GSem nD τ sig := ((c : Thread nD τ), .reg barS)
abbrev sendCell (c : Dev nD) (d : Fin 32) : GSem nD τ sig := ((c : Thread nD τ), .dma (sendS d))
abbrev recvCell (c : Dev nD) (d : Fin 32) : GSem nD τ sig := ((c : Thread nD τ), .dma (recvS d))
abbrev stCell (c : Dev nD) (s : Fin 2) : GSem nD τ sig := ((c : Thread nD τ), .dma (stS s))

/-- What a counter is for. -/
inductive Kind
  | bar | send (d : Fin 32) | recv (d : Fin 32) | st (s : Fin 2) | other
  deriving DecidableEq

def kind : SemLoc sig → Kind
  | .reg _ => .bar
  | .dma n =>
    if h : 2 ≤ n.val ∧ n.val < 34 then .send ⟨n.val - 2, by omega⟩
    else if h : 34 ≤ n.val ∧ n.val < 66 then .recv ⟨n.val - 34, by omega⟩
    else if h : 66 ≤ n.val ∧ n.val < 68 then .st ⟨n.val - 66, by omega⟩
    else .other

theorem kind_bar : kind (.reg barS) = .bar := rfl
theorem kind_send (d : Fin 32) : kind (.dma (sendS d)) = .send d := by revert d; decide
theorem kind_recv (d : Fin 32) : kind (.dma (recvS d)) = .recv d := by revert d; decide
theorem kind_st (s : Fin 2) : kind (.dma (stS s)) = .st s := by revert s; decide

/-- The bytes of one slot, and of one chunk's rows. -/
abbrev N : ℕ := (slotM 0).view.dmaCredit
abbrev NP : ℕ := (rowsM 0).view.dmaCredit
theorem N_pos : 0 < N := View.dmaCredit_pos _ (by decide)
theorem NP_pos : 0 < NP := View.dmaCredit_pos _ (by decide)

/-! ## The schedule -/

/-- Paid to device `c`'s barrier by device `c + e`. -/
def barPay (c : Dev nD) (e : Fin 32) : sProp 𝕄 :=
  iprop((∃ Y : Vec F S2x2x64 .f32, owns (((c + e : Dev nD)) : Thread nD τ) (slotM e) fullShare Y) ∗ reached ER (recvCell (c + e) e) 0)
def sendPay (c : Dev nD) (d : Fin 32) : sProp 𝕄 := owns (c : Thread nD τ) (slotM 0) (shareTok fullShare 32 d) (statS (X c))
def recvPay (c : Dev nD) (d : Fin 32) : sProp 𝕄 := owns (c : Thread nD τ) (slotM d) fullShare (statS (X (c - d)))
/-- The chunk that the store counter `s` pays for in round `r`. -/
def jOf (s : Fin 2) (r : ℕ) : Fin 4 := ⟨(s.val + 2 * r) % 4, Nat.mod_lt _ (by decide)⟩
def stPay (c : Dev nD) (s : Fin 2) (r : ℕ) : sProp 𝕄 :=
  iprop(owns (c : Thread nD τ) (rowsM (jOf s r)) fullShare (chunkS X Wt c (jOf s r))
    ∗ owns (c : Thread nD τ) (packM s) fullShare (chunkS X Wt c (jOf s r)))

def rd : Rounds.Schedule (GSem nD τ sig) (Fin 32) 𝕄 where
  duties g r := match kind g.2 with
    | .bar => if r = 0 then Finset.univ.erase 0 else ∅
    | .send d => if r = 0 ∧ d ≠ 0 then {d} else ∅
    | .recv d => if r = 0 ∧ d ≠ 0 then {d} else ∅
    | .st _ => if r < 2 then {0} else ∅
    | .other => ∅
  unitless _ := False
  amount g _ _ := match kind g.2 with
    | .bar => 1
    | .st _ => NP
    | _ => N
  payload g r e := match kind g.2 with
    | .bar => barPay g.1.1 e
    | .send d => sendPay X g.1.1 d
    | .recv d => recvPay X g.1.1 d
    | .st s => stPay X Wt g.1.1 s r
    | .other => iprop(emp)
  amount_pos g _ _ _ := by
    cases kind g.2 with
    | bar => exact Nat.one_pos
    | st _ => exact NP_pos
    | send _ => exact N_pos
    | recv _ => exact N_pos
    | other => exact N_pos

instance rd_payload_storable (g : GSem nD τ sig) (r : ℕ) (d : Fin 32) :
    BI.Storable (upEmb : UEmb _ 𝕄) ((rd (F := F) X Wt).payload g r d) := by
  unfold rd
  dsimp only
  split
  · unfold barPay; infer_instance
  · unfold sendPay; infer_instance
  · unfold recvPay; infer_instance
  · unfold stPay; infer_instance
  · infer_instance

section Sched

variable (c : Dev nD)

theorem duties_bar : (rd (F := F) X Wt).duties (barCell c) 0 = Finset.univ.erase 0 := by
  simp only [rd, kind_bar, if_true]
theorem duties_send {d : Fin 32} (h : d ≠ 0) : (rd (F := F) X Wt).duties (sendCell c d) 0 = {d} := by
  simp only [rd, kind_send, ne_eq, h, not_false_eq_true, and_self, if_true]
theorem duties_recv {d : Fin 32} (h : d ≠ 0) : (rd (F := F) X Wt).duties (recvCell c d) 0 = {d} := by
  simp only [rd, kind_recv, ne_eq, h, not_false_eq_true, and_self, if_true]
theorem duties_st (s : Fin 2) {r : ℕ} (h : r < 2) : (rd (F := F) X Wt).duties (stCell c s) r = {0} := by
  simp only [rd, kind_st, h, if_true]

theorem later_bar : ∀ r, 1 ≤ r → (rd (F := F) X Wt).duties (barCell c) r = ∅ := fun r hr => by
  simp only [rd, kind_bar, show r ≠ 0 by omega, if_false]
theorem later_send (d : Fin 32) : ∀ r, (if d = 0 then 0 else 1) ≤ r → (rd (F := F) X Wt).duties (sendCell c d) r = ∅ := fun r hr => by
  simp only [rd, kind_send]
  by_cases h : d = 0
  · simp [h]
  · rw [if_neg h] at hr; rw [if_neg fun e => by omega]
theorem later_recv (d : Fin 32) : ∀ r, (if d = 0 then 0 else 1) ≤ r → (rd (F := F) X Wt).duties (recvCell c d) r = ∅ := fun r hr => by
  simp only [rd, kind_recv]
  by_cases h : d = 0
  · simp [h]
  · rw [if_neg h] at hr; rw [if_neg fun e => by omega]
theorem later_st (s : Fin 2) : ∀ r, 2 ≤ r → (rd (F := F) X Wt).duties (stCell c s) r = ∅ := fun r hr => by
  simp only [rd, kind_st, show ¬ r < 2 by omega, if_false]

theorem amount_bar (r : ℕ) (e : Fin 32) : (rd (F := F) X Wt).amount (barCell c) r e = 1 := by simp only [rd, kind_bar]
theorem amount_send (d : Fin 32) (r : ℕ) (e : Fin 32) : (rd (F := F) X Wt).amount (sendCell c d) r e = N := by simp only [rd, kind_send]
theorem amount_recv (d : Fin 32) (r : ℕ) (e : Fin 32) : (rd (F := F) X Wt).amount (recvCell c d) r e = N := by simp only [rd, kind_recv]
theorem amount_st (s : Fin 2) (r : ℕ) (e : Fin 32) : (rd (F := F) X Wt).amount (stCell c s) r e = NP := by simp only [rd, kind_st]

theorem expect_bar : (rd (F := F) X Wt).expect (barCell c) 0 = 31 := by
  unfold Schedule.expect Schedule.amountOf
  simp only [duties_bar, amount_bar]
  decide
theorem expect_send {d : Fin 32} (h : d ≠ 0) : (rd (F := F) X Wt).expect (sendCell c d) 0 = N := by
  unfold Schedule.expect Schedule.amountOf
  rw [duties_send X Wt c h, Finset.sum_singleton, amount_send]
theorem expect_recv {d : Fin 32} (h : d ≠ 0) : (rd (F := F) X Wt).expect (recvCell c d) 0 = N := by
  unfold Schedule.expect Schedule.amountOf
  rw [duties_recv X Wt c h, Finset.sum_singleton, amount_recv]
theorem expect_st (s : Fin 2) {r : ℕ} (h : r < 2) : (rd (F := F) X Wt).expect (stCell c s) r = NP := by
  unfold Schedule.expect Schedule.amountOf
  rw [duties_st X Wt c s h, Finset.sum_singleton, amount_st]

theorem payload_bar (r : ℕ) (e : Fin 32) : (rd (F := F) X Wt).payload (barCell c) r e = barPay c e := by simp only [rd, kind_bar]
theorem payload_send (d : Fin 32) (r : ℕ) (e : Fin 32) : (rd (F := F) X Wt).payload (sendCell c d) r e = sendPay X c d := by
  simp only [rd, kind_send]
theorem payload_recv (d : Fin 32) (r : ℕ) (e : Fin 32) : (rd (F := F) X Wt).payload (recvCell c d) r e = recvPay X c d := by
  simp only [rd, kind_recv]
theorem payload_st (s : Fin 2) (r : ℕ) (e : Fin 32) : (rd (F := F) X Wt).payload (stCell c s) r e = stPay X Wt c s r := by
  simp only [rd, kind_st]

theorem rest_bar : bigSep ((rd (F := F) X Wt).duties (barCell c) 0 \ ∅) (fun e => (rd (F := F) X Wt).payload (barCell c) 0 e)
    = bigSep (Finset.univ.erase 0) (fun e => barPay c e) := by
  simp only [Finset.sdiff_empty, duties_bar, payload_bar]
theorem rest_send {d : Fin 32} (h : d ≠ 0) :
    bigSep ((rd (F := F) X Wt).duties (sendCell c d) 0 \ ∅) (fun e => (rd (F := F) X Wt).payload (sendCell c d) 0 e) = sendPay X c d := by
  rw [Finset.sdiff_empty, duties_send X Wt c h, bigSep_singleton, payload_send]
theorem rest_recv {d : Fin 32} (h : d ≠ 0) :
    bigSep ((rd (F := F) X Wt).duties (recvCell c d) 0 \ ∅) (fun e => (rd (F := F) X Wt).payload (recvCell c d) 0 e) = recvPay X c d := by
  rw [Finset.sdiff_empty, duties_recv X Wt c h, bigSep_singleton, payload_recv]
theorem rest_st (s : Fin 2) {r : ℕ} (h : r < 2) :
    bigSep ((rd (F := F) X Wt).duties (stCell c s) r \ ∅) (fun e => (rd (F := F) X Wt).payload (stCell c s) r e) = stPay X Wt c s r := by
  rw [Finset.sdiff_empty, duties_st X Wt c s h, bigSep_singleton, payload_st]

end Sched

/-! ## What is owed; the levels -/

/-- Device `c` still owes a barrier unit at the offsets `ls` and a copy at the offsets `lr`. -/
def ow (c : Dev nD) (ls lr : List (Fin 32)) : CellTallies nD τ sig Unit :=
  (ls.map fun d => tallyAt (barCell (c + d)) () 1).sum + (lr.map fun d => tallyAt (recvCell (c + d) d) () N).sum

theorem ow_cons_bar (c : Dev nD) (d : Fin 32) (ls lr : List (Fin 32)) :
    ow c (d :: ls) lr = ow c ls lr + tallyAt (barCell (c + d)) () 1 := by
  unfold ow; rw [List.map_cons, List.sum_cons, add_assoc, add_comm]
theorem ow_cons_recv (c : Dev nD) (d : Fin 32) (lr : List (Fin 32)) :
    ow c [] (d :: lr) = ow c [] lr + tallyAt (recvCell (c + d) d) () N := by
  unfold ow; rw [List.map_cons, List.sum_cons, add_comm (tallyAt _ _ _) (List.sum _), add_assoc]
theorem ow_nil (c : Dev nD) : ow c [] [] = 0 := by unfold ow; simp

/-- Something owed is owed to a barrier or to a receive counter of a device in the lists. -/
theorem ow_pos {c : Dev nD} {ls lr : List (Fin 32)} {g : GSem nD τ sig} {u : Unit} (h : 0 < ow c ls lr g u) :
    (∃ d ∈ ls, g = barCell (c + d)) ∨ ∃ d ∈ lr, g = recvCell (c + d) d := by
  induction ls with
  | nil =>
    induction lr with
    | nil => rw [ow_nil] at h; exact absurd h (Nat.lt_irrefl 0)
    | cons d lr ih =>
      rw [ow_cons_recv, Pi.add_apply, Finsupp.add_apply, tallyAt_apply] at h
      by_cases e : g = recvCell (c + d) d ∧ u = ()
      · exact .inr ⟨d, List.mem_cons_self, e.1⟩
      · rw [if_neg e, Nat.add_zero] at h
        rcases ih h with ⟨d', h', -⟩ | ⟨d', h', e'⟩
        · exact absurd h' List.not_mem_nil
        · exact .inr ⟨d', List.mem_cons_of_mem _ h', e'⟩
  | cons d ls ih =>
    rw [ow_cons_bar, Pi.add_apply, Finsupp.add_apply, tallyAt_apply] at h
    by_cases e : g = barCell (c + d) ∧ u = ()
    · exact .inl ⟨d, List.mem_cons_self, e.1⟩
    · rw [if_neg e, Nat.add_zero] at h
      rcases ih h with ⟨d', h', e'⟩ | h'
      · exact .inl ⟨d', List.mem_cons_of_mem _ h', e'⟩
      · exact .inr h'

def L (g : GSem nD τ sig) : Finset Unit := if g.1.2 = .tc then {()} else ∅
/-- Barriers at 1, receive counters at 2, the rest at 0. -/
def lv (g : GSem nD τ sig) (_ : Unit) : ℕ := match kind g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (d : Fin 32) (u : Unit) : lv (recvCell c d) u = 2 := by simp only [lv, kind_recv]

theorem ow_L {c : Dev nD} {ls lr : List (Fin 32)} {g : GSem nD τ sig} {u : Unit} (h : 0 < ow c ls lr g u) : u ∈ L g := by
  rcases ow_pos h with ⟨d, -, rfl⟩ | ⟨d, -, rfl⟩ <;> rw [L_tc] <;> exact Finset.mem_singleton_self _

/-- The barrier wait comes before the copies. -/
theorem mayWait_bar (c : Dev nD) : (levAts L lv : sProp 𝕄) ⊢ MayWait (c : Thread nD τ) (.reg barS) () (ow c [] offs) :=
  MayOwe.of_cut (L := L) (lev := lv) 1 (fun p hp => by rw [Finset.mem_singleton.mp hp, L_tc]; exact Finset.mem_singleton_self _)
    (fun g u hg => ow_L hg)
    (fun p hp => by rw [Finset.mem_singleton.mp hp]; exact le_of_eq (lv_bar c ()))
    (fun g u hg => by
      rcases ow_pos hg with ⟨d, h, -⟩ | ⟨d, -, rfl⟩
      · exact absurd h List.not_mem_nil
      · rw [lv_recv]; decide)

/-- The device the kernel names at offset `d`. -/
theorem dev_eq (c : Dev nD) (d : Fin 32) : (⟨devN d c, devN_lt d c⟩ : Dev nD) = c + d := by
  refine Fin.ext ?_
  rw [Fin.val_add]
  exact devN_eq c d

end Cert.KernelIdeal.Stats

end
-- ==== Proof.Steps.lean ====
/- The steps of the body, each once: a signal, a send, the pair of waits of an offset, a chunk, a wait for a chunk's copy; and
   the rule that runs a loop over the offsets from the rule of its step. -/
module

public import Idealize.SL.ProofMode.BigOp
public import Idealize.ShloMosaic.Lib.Pipeline.BigSepL
public import proofs.«01_k».proof.Proof.Cells

@[expose] public section

noncomputable section

namespace Cert.KernelIdeal.Stats

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (X : Dev nD → Vec F S2x128x64x128 .f32) (Wt : Dev nD → Vec F S64x128 .f32)

abbrev 𝒱₀ : Variants := Variants.none

/-- A program of the body, run on device `c`. -/
abbrev wpB (c : Dev nD) (k : PP F) (Q : PUnit → sProp 𝕄) : sProp 𝕄 :=
  wp frame (wpE (defs₀ (F := F)) 𝒱₀ (c : Thread nD τ) none) Set.univ k Q

/-! ## Families of resources -/

omit [FloatOps F] in
/-- One of a family. -/
theorem pick {I : Type} [DecidableEq I] {s : Finset I} {Φ : I → sProp 𝕄} {i : I} (h : i ∈ s) : (bigSep s Φ : sProp 𝕄) ⊢ Φ i := bigSep_elim h
omit [FloatOps F] in
/-- A family stepped member by member. -/
theorem each {I : Type} {s : Finset I} {Φ Ψ : I → sProp 𝕄} (h : ∀ i ∈ s, Φ i ⊢ Ψ i) : (bigSep s Φ : sProp 𝕄) ⊢ bigSep s Ψ := bigSep_mono h
omit [FloatOps F] in
/-- Two families over one set are one family of pairs. -/
theorem zip {I : Type} (s : Finset I) (Φ Ψ : I → sProp 𝕄) : (iprop(bigSep s Φ ∗ bigSep s Ψ) : sProp 𝕄) ⊢ bigSep s fun i => iprop(Φ i ∗ Ψ i) :=
  Entails.of_eq (bigSep_sep' s Φ Ψ).symm
omit [FloatOps F] in
theorem unzip {I : Type} (s : Finset I) (Φ Ψ : I → sProp 𝕄) : (bigSep s fun i => iprop(Φ i ∗ Ψ i)) ⊢ (iprop(bigSep s Φ ∗ bigSep s Ψ) : sProp 𝕄) :=
  Entails.of_eq (bigSep_sep' s Φ Ψ)

/-- The offsets other than 0. -/
abbrev nz : Finset (Fin 32) := Finset.univ.erase 0

omit [FloatOps F] in
/-- Offset 0, and the others. -/
theorem nz_split (Φ : Fin 32 → sProp 𝕄) : bigSep Finset.univ Φ = (iprop(Φ 0 ∗ bigSep nz Φ) : sProp 𝕄) := bigSep_erase (Finset.mem_univ 0)
omit [FloatOps F] in
/-- The others, in the kernel's order. -/
theorem nz_list (Φ : Fin 32 → sProp 𝕄) : bigSep nz Φ = bigSepL offs Φ := bigSep_eq_bigSepL_of_eq offs (by decide) (by decide) Φ
omit [FloatOps F] in
/-- The others, counted backwards. -/
theorem nz_neg (Φ : Fin 32 → sProp 𝕄) : bigSep nz Φ = bigSep nz fun d => Φ (-d) := by
  have h : nz = nz.map (Equiv.neg (Fin 32)).toEmbedding := by decide
  exact (congrArg (fun s => bigSep s Φ) h).trans (bigSep_map _)

/-! ## The invariants -/

/-- The body's own counters. -/
def osem : Fin 32 ⊕ Fin 32 ⊕ Fin 2 → SemLoc sig :=
  Sum.elim (fun d => .dma (sendS d)) (Sum.elim (fun d => .dma (recvS d)) fun s => .dma (stS s))
theorem osem_inj : Function.Injective osem := by
  intro a b h
  have hk := congrArg kind h
  rcases a with d | d | s <;> rcases b with d' | d' | s' <;>
    simp only [osem, Sum.elim_inl, Sum.elim_inr, kind_send, kind_recv, kind_st, Kind.send.injEq, Kind.recv.injEq, Kind.st.injEq, reduceCtorEq] at hk <;>
    first | exact hk.elim | rw [hk]

def barCells : Finset (GSem nD τ sig) := Finset.univ.map ⟨fun c : Dev nD => barCell c, fun a b h => by
  have := congrArg (fun g : GSem nD τ sig => g.1.1) h; exact this⟩
def scCells : Finset (GSem nD τ sig) := Finset.univ.map ⟨fun p : Dev nD × (Fin 32 ⊕ Fin 32 ⊕ Fin 2) => (((p.1 : Thread nD τ), osem p.2) : GSem nD τ sig),
  fun a b h => by
    have h1 : a.1 = b.1 := congrArg (fun g : GSem nD τ sig => g.1.1) h
    have h2 : osem a.2 = osem b.2 := congrArg (fun g : GSem nD τ sig => g.2) h
    exact Prod.ext h1 (osem_inj h2)⟩

theorem mem_bar (c : Dev nD) : barCell c ∈ barCells ∪ scCells :=
  Finset.mem_union_left _ (Finset.mem_map.mpr ⟨c, Finset.mem_univ _, rfl⟩)
theorem mem_sc (c : Dev nD) (o : Fin 32 ⊕ Fin 32 ⊕ Fin 2) : (((c : Thread nD τ), osem o) : GSem nD τ sig) ∈ barCells ∪ scCells :=
  Finset.mem_union_right _ (Finset.mem_map.mpr ⟨(c, o), Finset.mem_univ _, rfl⟩)

/-- Every counter's invariant, and that every barrier is open. -/
def invAll (K : GSem nD τ sig → ℕ) : sProp 𝕄 :=
  iprop(bigSep (barCells ∪ scCells) (fun g => cellInv ER (rd X Wt) (K g) g) ∗ bigSep Finset.univ fun c : Dev nD => reached ER (barCell c) 0)
instance invAll_persistent (K : GSem nD τ sig → ℕ) : BI.Persistent (invAll X Wt K) := by unfold invAll; infer_instance

theorem inv_bar (K : GSem nD τ sig → ℕ) (c : Dev nD) : invAll X Wt K ⊢ cellInv ER (rd X Wt) (K (barCell c)) (barCell c) := by
  unfold invAll
  iintro ⟨H, -⟩
  iapply (pick (Φ := fun g => (cellInv ER (rd X Wt) (K g) g : sProp 𝕄)) (mem_bar c)); iexact H
theorem inv_sc (K : GSem nD τ sig → ℕ) (c : Dev nD) (o : Fin 32 ⊕ Fin 32 ⊕ Fin 2) :
    invAll X Wt K ⊢ cellInv ER (rd X Wt) (K ((c : Thread nD τ), osem o)) ((c : Thread nD τ), osem o) := by
  unfold invAll
  iintro ⟨H, -⟩
  iapply (pick (Φ := fun g => (cellInv ER (rd X Wt) (K g) g : sProp 𝕄)) (mem_sc c o)); iexact H
theorem inv_send (K : GSem nD τ sig → ℕ) (c : Dev nD) (d : Fin 32) :
    invAll X Wt K ⊢ cellInv ER (rd X Wt) (K (sendCell c d)) (sendCell c d) := inv_sc X Wt K c (.inl d)
theorem inv_recv (K : GSem nD τ sig → ℕ) (c : Dev nD) (d : Fin 32) :
    invAll X Wt K ⊢ cellInv ER (rd X Wt) (K (recvCell c d)) (recvCell c d) := inv_sc X Wt K c (.inr (.inl d))
theorem inv_st (K : GSem nD τ sig → ℕ) (c : Dev nD) (s : Fin 2) :
    invAll X Wt K ⊢ cellInv ER (rd X Wt) (K (stCell c s)) (stCell c s) := inv_sc X Wt K c (.inr (.inr s))
theorem inv_open (K : GSem nD τ sig → ℕ) (c : Dev nD) : invAll X Wt K ⊢ reached ER (barCell c) 0 := by
  unfold invAll
  iintro ⟨-, H⟩
  iapply (pick (Φ := fun c : Dev nD => (reached ER (barCell c) 0 : sProp 𝕄)) (Finset.mem_univ c)); iexact H

/-- What the body's steps read and keep: the invariants, and that the own counters are open. -/
def ctx (K : GSem nD τ sig → ℕ) (c : Dev nD) : sProp 𝕄 :=
  iprop(invAll X Wt K ∗ bigSep Finset.univ fun o => reached ER ((c : Thread nD τ), osem o) 0)
instance ctx_persistent (K : GSem nD τ sig → ℕ) (c : Dev nD) : BI.Persistent (ctx X Wt K c) := by unfold ctx; infer_instance

theorem ctx_open (K : GSem nD τ sig → ℕ) (c : Dev nD) (o : Fin 32 ⊕ Fin 32 ⊕ Fin 2) :
    ctx X Wt K c ⊢ reached ER ((c : Thread nD τ), osem o) 0 := by
  unfold ctx
  iintro ⟨-, H⟩
  iapply (pick (Φ := fun o => (reached ER ((c : Thread nD τ), osem o) 0 : sProp 𝕄)) (Finset.mem_univ o)); iexact H
theorem ctx_send (K : GSem nD τ sig → ℕ) (c : Dev nD) (d : Fin 32) : ctx X Wt K c ⊢ reached ER (sendCell c d) 0 := ctx_open X Wt K c (.inl d)
theorem ctx_recv (K : GSem nD τ sig → ℕ) (c : Dev nD) (d : Fin 32) : ctx X Wt K c ⊢ reached ER (recvCell c d) 0 := ctx_open X Wt K c (.inr (.inl d))
theorem ctx_st (K : GSem nD τ sig → ℕ) (c : Dev nD) (s : Fin 2) : ctx X Wt K c ⊢ reached ER (stCell c s) 0 := ctx_open X Wt K c (.inr (.inr s))
theorem ctx_inv (K : GSem nD τ sig → ℕ) (c : Dev nD) : ctx X Wt K c ⊢ invAll X Wt K := by
  unfold ctx; iintro ⟨H, -⟩; iexact H

/-! ## Loops -/

/-- A loop from its step: the step takes `Pre d`, gives `Post d`, and moves the loop's state from `d :: l` to `l`. -/
theorem loop {c : Dev nD} {Q : PUnit → sProp 𝕄} (f : Fin 32 → PP F → PP F) (I : List (Fin 32) → sProp 𝕄) (Pre Post : Fin 32 → sProp 𝕄)
    (hstep : ∀ d, d ≠ 0 → ∀ l k, iprop(I (d :: l) ∗ Pre d ∗ ((I l ∗ Post d) -∗ wpB c k Q)) ⊢ wpB c (f d k) Q) :
    ∀ l, (∀ d ∈ l, d ≠ 0) → ∀ k, iprop(I l ∗ bigSepL l Pre ∗ ((I [] ∗ bigSepL l Post) -∗ wpB c k Q)) ⊢ wpB c (l.foldr f k) Q
  | [], _, k => by
    iintro ⟨HI, Hp, Hk⟩
    iapply Hk
    isplitl [HI]; · iexact HI
    iexact Hp
  | d :: l, h, k => by
    have hc (Φ : Fin 32 → sProp 𝕄) : bigSepL (d :: l) Φ = iprop(Φ d ∗ bigSepL l Φ) := bigSepL_cons d l Φ
    rw [List.foldr_cons, hc, hc]
    iintro ⟨HI, ⟨Hd, Hl⟩, Hk⟩
    iapply (hstep d (h d List.mem_cons_self) l (l.foldr f k))
    isplitl [HI]; · iexact HI
    isplitl [Hd]; · iexact Hd
    iintro ⟨HI, Hd⟩
    iapply (loop f I Pre Post hstep l (fun e he => h e (List.mem_cons_of_mem _ he)) k)
    isplitl [HI]; · iexact HI
    isplitl [Hl]; · iexact Hl
    iintro ⟨HI, Hl⟩
    iapply Hk
    isplitl [HI]; · iexact HI
    isplitl [Hd]; · iexact Hd
    iexact Hl

/-! ## A signal -/

def sigI (K : GSem nD τ sig → ℕ) (c : Dev nD) (l : List (Fin 32)) : sProp 𝕄 :=
  iprop(ctx X Wt K c ∗ ∃ W, owes (c : Thread nD τ) (ow c l offs) W)
def sigPre (c : Dev nD) (d : Fin 32) : sProp 𝕄 :=
  iprop(dutyTok ER (barCell (c + d)) 0 (-d) ∗ ∃ Y : Vec F S2x2x64 .f32, owns (c : Thread nD τ) (slotM (-d)) fullShare Y)

theorem one_int : (1#32 : BitVec 32).toInt = ((1 : ℕ) : ℤ) := by decide
theorem thirtyone_int : (31#32 : BitVec 32).toInt = ((31 : ℕ) : ℤ) := by decide

theorem sig_step (K : GSem nD τ sig → ℕ) (c : Dev nD) {Q : PUnit → sProp 𝕄} (d : Fin 32) (hd : d ≠ 0) (l : List (Fin 32)) (k : PP F) :
    iprop(sigI X Wt K c (d :: l) ∗ sigPre c d ∗ ((sigI X Wt K c l ∗ emp) -∗ wpB c k Q)) ⊢ wpB c (sigStep c d k) Q := by
  unfold sigStep sigPre
  rw [dev_eq, one_int]
  unfold sigI
  iintro ⟨⟨#Hctx, %W, HO⟩, ⟨Ht, Hs⟩, Hk⟩
  ihave #Hinv := (ctx_inv X Wt K c) $$ Hctx
  iapply (Rounds.wp_signal 𝒱₀ ER (rd X Wt) (c : Thread nD τ) none (dst := ((c + d : Dev nD) : Thread nD τ)) (sem := barS) (r := 0) (d := -d) (κ := K (barCell (c + d)))
      (by rw [duties_bar]; exact Finset.mem_erase.mpr ⟨neg_ne_zero.mpr hd, Finset.mem_univ _⟩) (amount_bar X Wt (c + d) 0 (-d)) () (ow c l offs) (ow_cons_bar c d l offs))
    $$ [HO Ht Hs]
  · isplitr; · iapply (inv_bar X Wt K (c + d)); iexact Hinv
    isplitl [HO]; · iexact HO
    isplitl [Ht]; · iexact Ht
    isplitl [Hs]
    · rw [payload_bar]; unfold barPay; rw [show c + d + -d = c from add_neg_cancel_right c d]
      isplitl [Hs]; · iexact Hs
      iapply (ctx_recv X Wt K c (-d)); iexact Hctx
    · iapply (inv_open X Wt K (c + d)); iexact Hinv
  iintro HO
  iapply Hk
  isplitl [HO]
  · isplitr; · iexact Hctx
    iexists W; iexact HO
  · iempintro

/-! ## A send -/

/-- The copy of slot 0 into slot `d` of device `c'`. -/
def sendTo (c' : Dev nD) (d : Fin 32) (k : PP F) : PP F :=
  .op (.enqueueDma (slotM 0) (.remote (Dev.tc c') (slotM d) (.dma (sendS d))) (.dma (recvS d))
    ((View.wordExact_bits rfl).reshape _ _) ((View.wordExact_bits rfl).reshape _ _) ⟨⟨rfl, Or.inl rfl⟩, trivial⟩) fun _ => k
theorem sendStep_eq (c : Dev nD) (d : Fin 32) (k : PP F) : sendStep c d k = sendTo (c + d) d k :=
  (show sendStep c d k = sendTo (⟨devN d c, devN_lt d c⟩ : Dev nD) d k from rfl).trans (by rw [dev_eq])

def sendI (K : GSem nD τ sig → ℕ) (c : Dev nD) (l : List (Fin 32)) : sProp 𝕄 :=
  iprop(ctx X Wt K c ∗ ∃ W, owes (c : Thread nD τ) (ow c [] l) W)
def sendPre (c : Dev nD) (d : Fin 32) : sProp 𝕄 :=
  iprop(barPay c d ∗ dutyTok ER (sendCell c d) 0 d ∗ dutyTok ER (recvCell (c + d) d) 0 d ∗ sendPay X c d)

theorem send_step (K : GSem nD τ sig → ℕ) (c : Dev nD) {Q : PUnit → sProp 𝕄} (d : Fin 32) (hd : d ≠ 0) (l : List (Fin 32)) (k : PP F) :
    iprop(sendI X Wt K c (d :: l) ∗ sendPre X c d ∗ ((sendI X Wt K c l ∗ cred (tallyAt (sendCell c d) () N)) -∗ wpB c k Q))
      ⊢ wpB c (sendStep c d k) Q := by
  rw [sendStep_eq]
  unfold sendTo sendPre barPay sendPay
  unfold sendI owns
  iintro ⟨⟨#Hctx, %W, HO⟩, ⟨⟨⟨%Y, %fd, -, Hd⟩, #Hr⟩, Hts, Htr, ⟨%fs, %hfs, Hs⟩⟩, Hk⟩
  ihave #Hinv := (ctx_inv X Wt K c) $$ Hctx
  iapply (Rounds.wp_send_pointsTo 𝒱₀ ER (rd X Wt) (c : Thread nD τ) none (c' := ((c + d : Dev nD) : Thread nD τ)) (src := slotM 0) (dst := slotM d)
      (sS := .dma (sendS d)) (sem := .dma (recvS d)) (q := shareTok fullShare 32 d) (fs := fs) (κ₁ := K (sendCell c d)) (κ₂ := K (recvCell (c + d) d))
      (r₁ := 0) (r₂ := 0) (d₁ := d) (d₂ := d) (fd := fd)
      (by rw [duties_send X Wt c hd]; exact Finset.mem_singleton_self _) (by rw [duties_recv X Wt (c + d) hd]; exact Finset.mem_singleton_self _)
      () () N rfl (amount_send X Wt c d 0 d) (amount_recv X Wt (c + d) d 0 d) (ow c [] l) (ow_cons_recv c d l) (W := W)
      (by rw [payload_send]; unfold sendPay; rw [← hfs]; exact owns_intro _ _ _ _)
      (by rw [payload_recv]; unfold recvPay; rw [show c + d - d = c from add_sub_cancel_right c d, ← hfs]; exact owns_written _ _ _ _)) $$ [Hs Hd HO Hts Htr]
  · isplitr; · iapply (inv_send X Wt K c d); iexact Hinv
    isplitr; · iapply (inv_recv X Wt K (c + d) d); iexact Hinv
    isplitl [Hs]; · iexact Hs
    isplitl [Hd]; · iexact Hd
    isplitl [HO]; · iexact HO
    isplitl [Hts]; · iexact Hts
    isplitr; · iapply (ctx_send X Wt K c d); iexact Hctx
    isplitl [Htr]; · iexact Htr
    iexact Hr
  iintro ⟨Hc, HO⟩
  iapply Hk
  isplitl [HO]
  · isplitr; · iexact Hctx
    iexists W; iexact HO
  · iexact Hc

/-! ## The waits of an offset -/

def idle (K : GSem nD τ sig → ℕ) (c : Dev nD) : sProp 𝕄 :=
  iprop(ctx X Wt K c ∗ ∃ W, owes (c : Thread nD τ) (0 : CellTallies nD τ sig Unit) W)
def waitPre (c : Dev nD) (d : Fin 32) : sProp 𝕄 :=
  iprop(cred (tallyAt (sendCell c d) () N) ∗ cred (tallyAt (recvCell c d) () N) ∗ atPos ER (sendCell c d) 0 ∅ 0 ∗ atPos ER (recvCell c d) 0 ∅ 0)
def waitPost (c : Dev nD) (d : Fin 32) : sProp 𝕄 :=
  iprop(atPos ER (sendCell c d) 1 ∅ 0 ∗ atPos ER (recvCell c d) 1 ∅ 0 ∗ sendPay X c d ∗ recvPay X c d)

theorem wait_step (K : GSem nD τ sig → ℕ) (c : Dev nD) {Q : PUnit → sProp 𝕄} (d : Fin 32) (hd : d ≠ 0) (k : PP F) :
    iprop(idle X Wt K c ∗ waitPre c d ∗ ((idle X Wt K c ∗ waitPost X c d) -∗ wpB c k Q)) ⊢ wpB c (waitStep d k) Q := by
  unfold waitStep waitPre waitPost idle
  iintro ⟨⟨#Hctx, %W, HO⟩, ⟨Hcs, Hcr, Has, Har⟩, Hk⟩
  ihave #Hinv := (ctx_inv X Wt K c) $$ Hctx
  iapply (Rounds.wp_wait_rest_token 𝒱₀ ER (rd X Wt) (c : Thread nD τ) none (κ := K (sendCell c d))
      (wpE_waitDma2_eq (src := slotM d) (dst := slotM 0) 𝒱₀ (c : Thread nD τ) none Set.univ) (Set.mem_univ _) () (O := 0) (W := W) (R := 0) (m := 0) (T := ∅)
      ((Nat.zero_add _).trans (expect_send X Wt c hd).symm)) $$ [Hcs HO Has]
  · isplitr; · iapply (inv_send X Wt K c d); iexact Hinv
    isplitl [Hcs]; · iexact Hcs
    isplitl [HO]; · iexact HO
    isplitr; · rw [MayWait_zero]; iempintro
    iexact Has
  iintro ⟨HO, Has, -, Hpay⟩
  ihave Hs := (Entails.of_eq (rest_send X Wt c hd)) $$ Hpay
  iapply (Rounds.wp_wait_rest_token 𝒱₀ ER (rd X Wt) (c : Thread nD τ) none (κ := K (recvCell c d))
      (wpE_waitDma2_eq (src := slotM 0) (dst := slotM d) 𝒱₀ (c : Thread nD τ) none Set.univ) (Set.mem_univ _) () (O := 0) (R := 0) (m := 0) (T := ∅)
      ((Nat.zero_add _).trans (expect_recv X Wt c hd).symm)) $$ [Hcr HO Har]
  · isplitr; · iapply (inv_recv X Wt K c d); iexact Hinv
    isplitl [Hcr]; · iexact Hcr
    isplitl [HO]; · iexact HO
    isplitr; · rw [MayWait_zero]; iempintro
    iexact Har
  iintro ⟨HO, Har, -, Hpay⟩
  ihave Hr := (Entails.of_eq (rest_recv X Wt c hd)) $$ Hpay
  iapply Hk
  isplitl [HO]
  · isplitr; · iexact Hctx
    iexists _; iexact HO
  isplitl [Has]; · iexact Has
  isplitl [Har]; · iexact Har
  isplitl [Hs]; · iexact Hs
  iexact Hr

/-! ## A chunk -/

/-- A load of a rectangle of an owned memref reads its part of the contents. -/
theorem load_owns {c : Dev nD} {Q : PUnit → sProp 𝕄} {cs : CoreSpace} {s : Shape} {e : EltTy} (m : Memref sig .tc cs s e) (r : Rect s)
    (hl : m.view.LoadsAt r.toLoadRect) (q : PosShare TreeShare) (Y : s.Idx → Elt F e) (k : (r.shape.Idx → Elt F e) → PP F) :
    iprop(owns (c : Thread nD τ) m q Y ∗ (owns (c : Thread nD τ) m q Y -∗ wpB c (k fun i => Y (r.emb i)) Q))
      ⊢ wpB c (.op (.load m r.toLoadRect hl) k) Q := by
  unfold owns
  iintro ⟨⟨%f, %hf, H⟩, Hk⟩
  iapply (wp_load_rect 𝒱₀ (c : Thread nD τ) none Set.univ (m := m) (r := r) (View.set_slice_subset m.view r)) $$ H
  iintro H
  subst hf
  iapply Hk
  iexists f
  isplitr
  · ipureintro; rfl
  · iexact H

/-- Chunk `jOf s r`: the rows and the weights are read, the staging slot is written, its copy out starts. -/
theorem chunk_step (K : GSem nD τ sig → ℕ) (c : Dev nD) {Q : PUnit → sProp 𝕄} (j : Fin 4) (s : Fin 2) (r : ℕ) (hj : j = jOf s r) (hr : r < 2) (k : PP F) :
    iprop(idle X Wt K c ∗ owns (c : Thread nD τ) xM fullShare (X c) ∗ owns (c : Thread nD τ) wM fullShare (Wt c)
        ∗ (∃ Y : Vec F S2x32x128x128 .f32, owns (c : Thread nD τ) (packM s) fullShare Y)
        ∗ (∃ Y : Vec F S2x32x128x128 .f32, owns (c : Thread nD τ) (rowsM j) fullShare Y)
        ∗ dutyTok ER (stCell c s) r 0 ∗ reached ER (stCell c s) r
        ∗ ((idle X Wt K c ∗ owns (c : Thread nD τ) xM fullShare (X c) ∗ owns (c : Thread nD τ) wM fullShare (Wt c)
            ∗ cred (tallyAt (stCell c s) () NP)) -∗ wpB c k Q))
      ⊢ wpB c (chunkStep j s (k0_pay6 (k0_pay4 (allStat X c))) (k0_pay7 (k0_pay4 (allStat X c))) k) Q := by
  subst hj
  unfold chunkStep
  iintro ⟨HI, Hx, Hw, ⟨%Y, Hp⟩, ⟨%Z, Ho⟩, Ht, Hr, Hk⟩
  iapply (load_owns xM (xR (jOf s r)) _ fullShare (X c))
  isplitl [Hx]; · iexact Hx
  iintro Hx
  iapply (load_owns wM (Rect.unit (s := S64x128) ![0, 0] S64x128.size inb_S64x128_S64x128_0_0) _ fullShare (Wt c))
  isplitl [Hw]; · iexact Hw
  iintro Hw
  have hw : (fun i => Wt c ((Rect.unit (s := S64x128) ![0, 0] S64x128.size inb_S64x128_S64x128_0_0).emb i)) = Wt c := by
    funext i
    refine congrArg (Wt c) (funext fun a => Fin.ext ?_)
    fin_cases a <;> exact (Nat.zero_add _).trans (Nat.one_mul _)
  rw [hw]
  unfold owns
  icases Hp with ⟨%f, -, Hp⟩
  icases Ho with ⟨%g, -, Ho⟩
  have hset : (packM s).view.set = (bM.access (packR s)).set := View.set_reshape _ _
  rw [hset]
  iapply (wp_load_rect 𝒱₀ (c : Thread nD τ) none Set.univ (m := bM) (r := packR s) subset_rfl) $$ Hp
  iintro Hp
  iapply (wp_store 𝒱₀ (c : Thread nD τ) none Set.univ (m := bM) (r := packR s) (subset_of_eq (View.setOn_univ _))) $$ Hp
  iintro Hp
  have hread (w : Vec F S1x2x32x128x128 .f32) :
      (packM s).view.read (Elt F) ((bM.access (packR s)).write (Elt F) f w Finset.univ)
        = fun y => w (Shape.reshapeEquiv squeezes_S1x2x32x128x128_S2x32x128x128.numel_eq y) := by
    funext y
    show ((bM.access (packR s)).read (Elt F) ((bM.access (packR s)).write (Elt F) f w Finset.univ)) (Shape.reshapeEquiv squeezes_S1x2x32x128x128_S2x32x128x128.numel_eq y) = _
    rw [View.read_write_univ]
  rw [← hset]
  unfold idle
  icases HI with ⟨#Hctx, %W, HO⟩
  ihave #Hinv := (ctx_inv X Wt K c) $$ Hctx
  iapply (Rounds.wp_copy_pointsTo 𝒱₀ ER (rd X Wt) (c : Thread nD τ) none (src := packM s) (dst := rowsM (jOf s r)) (sem := .dma (stS s)) (q := fullShare)
      (fs := (bM.access (packR s)).write (Elt F) f (chunk X Wt c (jOf s r)) Finset.univ) (fd := g) (r := r) (d := 0) (κ := K (stCell c s))
      (by rw [duties_st X Wt c s hr]; exact Finset.mem_singleton_self _) () NP rfl (amount_st X Wt c s r 0)
      (by
        rw [payload_st]; unfold stPay
        refine BIClass.sep_mono ((owns_written _ _ _ _).trans (Entails.of_eq ?_)) ((owns_intro _ _ _ _).trans (Entails.of_eq ?_)) <;>
          (rw [hread]; rfl))) $$ [Hp Ho Ht Hr]
  · isplitr; · iapply (inv_st X Wt K c s); iexact Hinv
    isplitl [Hp]; · iexact Hp
    isplitl [Ho]; · iexact Ho
    isplitl [Ht]; · iexact Ht
    iexact Hr
  iintro Hc
  iapply Hk
  isplitl [HO]
  · isplitr; · iexact Hctx
    iexists W; iexact HO
  isplitl [Hx]; · iexact Hx
  isplitl [Hw]; · iexact Hw
  iexact Hc

/-- The wait for a chunk's copy: the rows at the chunk's values, the staging slot back. -/
theorem out_step (K : GSem nD τ sig → ℕ) (c : Dev nD) {Q : PUnit → sProp 𝕄} (j : Fin 4) (s : Fin 2) (r : ℕ) (hr : r < 2) (k : PP F) :
    iprop(idle X Wt K c ∗ cred (tallyAt (stCell c s) () NP) ∗ atPos ER (stCell c s) r ∅ 0
        ∗ ((idle X Wt K c ∗ atPos ER (stCell c s) (r + 1) ∅ 0 ∗ reached ER (stCell c s) (r + 1) ∗ stPay X Wt c s r) -∗ wpB c k Q))
      ⊢ wpB c (outStep j s k) Q := by
  unfold outStep idle
  iintro ⟨⟨#Hctx, %W, HO⟩, Hc, Ha, Hk⟩
  ihave #Hinv := (ctx_inv X Wt K c) $$ Hctx
  iapply (Rounds.wp_wait_rest_token 𝒱₀ ER (rd X Wt) (c : Thread nD τ) none (κ := K (stCell c s))
      (wpE_waitDma2_eq (src := packM s) (dst := rowsM j) 𝒱₀ (c : Thread nD τ) none Set.univ) (Set.mem_univ _) () (O := 0) (W := W) (R := r) (m := 0) (T := ∅)
      ((Nat.zero_add _).trans (expect_st X Wt c s hr).symm)) $$ [Hc HO Ha]
  · isplitr; · iapply (inv_st X Wt K c s); iexact Hinv
    isplitl [Hc]; · iexact Hc
    isplitl [HO]; · iexact HO
    isplitr; · rw [MayWait_zero]; iempintro
    iexact Ha
  iintro ⟨HO, Ha, Hr, Hpay⟩
  ihave Hp := (Entails.of_eq (rest_st X Wt c s hr)) $$ Hpay
  iapply Hk
  isplitl [HO]
  · isplitr; · iexact Hctx
    iexists _; iexact HO
  isplitl [Ha]; · iexact Ha
  isplitl [Hr]; · iexact Hr
  iexact Hp

end Cert.KernelIdeal.Stats

end
-- ==== Proof.Slots.lean ====
/- The buffers in pieces: the exchange buffer as its slots, the staging buffer as its two slots, the result as its four blocks of
   rows; slot 0 in shares; slot 0 filled with the device's own sums. -/
module

public import proofs.«01_k».proof.Proof.Steps

@[expose] public section

noncomputable section

namespace Cert.KernelIdeal.Stats

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (X : Dev nD → Vec F S2x128x64x128 .f32) (Wt : Dev nD → Vec F S64x128 .f32)

/-! ## Shares -/

section Shares

variable {sp : Space} {sh : Shape} {e : EltTy} (c : Thread nD τ)

omit [FloatOps F] in
/-- An owned memref in one share per offset and a rest. -/
theorem owns_shares (m : Memref sig c.2.kind sp sh e) (Y : sh.Idx → Elt F e) :
    owns c m fullShare Y ⊢ (iprop(owns c m (shareDrop fullShare 32) Y ∗ bigSep Finset.univ fun d : Fin 32 => owns c m (shareTok fullShare 32 d) Y) : sProp 𝕄) := by
  have h : owns c m fullShare Y ⊢ (iprop(∃ f, ⌜m.view.read (Elt F) f = Y⌝ ∗ (m.view.loc c ↦[m.view.set]{fullShare} f)) : sProp 𝕄) := .rfl
  refine h.trans ?_
  iintro ⟨%f, %hf, H⟩
  rw [owns_at c m (shareDrop fullShare 32) hf]
  simp only [owns_at c m (shareTok fullShare 32 _) hf]
  iapply (pointsTo_toks fullShare 32).1
  iexact H

omit [FloatOps F] in
/-- The shares make the memref again. -/
theorem owns_unshare (m : Memref sig c.2.kind sp sh e) (Y : sh.Idx → Elt F e) :
    (iprop(owns c m (shareDrop fullShare 32) Y ∗ bigSep Finset.univ fun d : Fin 32 => owns c m (shareTok fullShare 32 d) Y) : sProp 𝕄) ⊢ owns c m fullShare Y := by
  have h : owns c m (shareDrop fullShare 32) Y ⊢ (iprop(∃ f, ⌜m.view.read (Elt F) f = Y⌝ ∗ (m.view.loc c ↦[m.view.set]{shareDrop fullShare 32} f)) : sProp 𝕄) := .rfl
  refine (BIClass.sep_mono h .rfl).trans ?_
  iintro ⟨⟨%f, %hf, H⟩, Ht⟩
  rw [owns_at c m fullShare hf]
  simp only [owns_at c m (shareTok fullShare 32 _) hf]
  iapply (pointsTo_toks fullShare 32).2
  isplitl [H]; · iexact H
  iexact Ht

end Shares

/-! ## The exchange buffer -/

variable (c : Dev nD)

/-- The buffer, at any contents, is its slots, at any contents. -/
theorem slots_of (Y : Vec F S32x2x2x64 .f32) :
    owns (c : Thread nD τ) cM fullShare Y
      ⊢ (bigSep Finset.univ fun d : Fin 32 => iprop(∃ Z : Vec F S2x2x64 .f32, owns (c : Thread nD τ) (slotM d) fullShare Z) : sProp 𝕄) := by
  refine (owns_rects (c : Thread nD τ) cM fullShare slotR (fun _ _ => rfl) slot_disj slot_cov Y).trans (each fun d _ => ?_)
  iintro H
  iexists fun y => Y ((slotR d).emb (Shape.reshapeEquiv squeezes_S1x2x2x64_S2x2x64.numel_eq y))
  rw [owns_squeeze (c : Thread nD τ) (cM.slice (slotR d) fun _ => rfl) squeezes_S1x2x2x64_S2x2x64 fullShare (fun j => Y ((slotR d).emb j))]
  iexact H

/-- Slot `d` of `allStat` is the sums of device `c - d`. -/
theorem allStat_slot (d : Fin 32) (z : S1x2x2x64.Idx) : allStat X c ((slotR d).emb z) = stat (X (c - d)) z := by
  have hz : (z 0).val = 0 := by have : (z 0).val < 1 := (z 0).isLt; omega
  have h0 : slotOf ((slotR d).emb z) = d := Fin.ext (by
    show d.val + 1 * (z 0).val = d.val
    rw [hz, Nat.mul_zero, Nat.add_zero])
  unfold allStat
  rw [h0]
  congr 1
  funext a
  refine Fin.ext ?_
  fin_cases a
  · exact hz.symm
  all_goals exact (Nat.zero_add _).trans (Nat.one_mul _)

/-- The slots, each at the sums of its device, are the buffer at all the sums. -/
theorem slots_join :
    (bigSep Finset.univ fun d : Fin 32 => owns (c : Thread nD τ) (slotM d) fullShare (statS (X (c - d))) : sProp 𝕄)
      ⊢ owns (c : Thread nD τ) cM fullShare (allStat X c) := by
  refine (each fun d _ => ?_).trans (owns_of_rects (c : Thread nD τ) cM fullShare slotR (fun _ _ => rfl) slot_disj slot_cov (allStat X c))
  refine (Entails.of_eq (owns_squeeze (c : Thread nD τ) (cM.slice (slotR d) fun _ => rfl) squeezes_S1x2x2x64_S2x2x64 fullShare (stat (X (c - d))))).trans
    (Entails.of_eq (congrArg _ (funext fun z => (allStat_slot X c d z).symm)))

/-! ## The staging buffer -/

theorem packs_of (Y : Vec F S2x2x32x128x128 .f32) :
    owns (c : Thread nD τ) bM fullShare Y
      ⊢ (bigSep Finset.univ fun s : Fin 2 => iprop(∃ Z : Vec F S2x32x128x128 .f32, owns (c : Thread nD τ) (packM s) fullShare Z) : sProp 𝕄) := by
  refine (owns_rects (c : Thread nD τ) bM fullShare packR (fun _ _ => rfl) pack_disj pack_cov Y).trans (each fun s _ => ?_)
  iintro H
  iexists fun y => Y ((packR s).emb (Shape.reshapeEquiv squeezes_S1x2x32x128x128_S2x32x128x128.numel_eq y))
  rw [owns_squeeze (c : Thread nD τ) (bM.slice (packR s) fun _ => rfl) squeezes_S1x2x32x128x128_S2x32x128x128 fullShare (fun j => Y ((packR s).emb j))]
  iexact H

/-- What the staging buffer holds when each slot holds a chunk. -/
def packed (j : Fin 2 → Fin 4) : Vec F S2x2x32x128x128 .f32 := fun i => chunk X Wt c (j (i 0)) (ix5 (0 : Fin 1) (i 1) (i 2) (i 3) (i 4))

theorem packs_join (j : Fin 2 → Fin 4) :
    (bigSep Finset.univ fun s : Fin 2 => owns (c : Thread nD τ) (packM s) fullShare (chunkS X Wt c (j s)) : sProp 𝕄)
      ⊢ owns (c : Thread nD τ) bM fullShare (packed X Wt c j) := by
  refine (each fun s _ => ?_).trans (owns_of_rects (c : Thread nD τ) bM fullShare packR (fun _ _ => rfl) pack_disj pack_cov (packed X Wt c j))
  refine (Entails.of_eq (owns_squeeze (c : Thread nD τ) (bM.slice (packR s) fun _ => rfl) squeezes_S1x2x32x128x128_S2x32x128x128 fullShare (chunk X Wt c (j s)))).trans
    (Entails.of_eq (congrArg _ (funext fun z => ?_)))
  have hz : (z 0).val = 0 := by have : (z 0).val < 1 := (z 0).isLt; omega
  unfold packed
  rw [show ((packR s).emb z) 0 = s from Fin.ext (by show s.val + 1 * (z 0).val = s.val; rw [hz, Nat.mul_zero, Nat.add_zero])]
  congr 1
  funext a
  refine Fin.ext ?_
  fin_cases a
  · exact hz
  all_goals exact ((Nat.zero_add _).trans (Nat.one_mul _)).symm

/-! ## The result -/

/-- Device `c`'s result. -/
def outAll : Vec F S2x128x128x128 .f32 := fun i =>
  chunk X Wt c ⟨(i 1).val / 32, by have : (i 1).val < 128 := (i 1).isLt; omega⟩
    (ix5 (0 : Fin 1) (i 0) (⟨(i 1).val % 32, Nat.mod_lt _ (by decide)⟩ : Fin 32) (i 2) (i 3))

theorem rows_of (Y : Vec F S2x128x128x128 .f32) :
    owns (c : Thread nD τ) oM fullShare Y
      ⊢ (bigSep Finset.univ fun j : Fin 4 => iprop(∃ Z : Vec F S2x32x128x128 .f32, owns (c : Thread nD τ) (rowsM j) fullShare Z) : sProp 𝕄) := by
  refine (owns_rects (c : Thread nD τ) oM fullShare oR (fun _ _ => rfl) rows_disj rows_cov Y).trans (each fun j _ => ?_)
  iintro H
  iexists fun y => Y ((oR j).emb y)
  iexact H

/-- A copied chunk at `y` is the stored one at the five-coordinate index. -/
theorem chunkS_at (j : Fin 4) (y : S2x32x128x128.Idx) : chunkS X Wt c j y = chunk X Wt c j (ix5 (0 : Fin 1) (y 0) (y 1) (y 2) (y 3)) := by
  unfold chunkS
  congr 1
  refine (Shape.reshapeEquiv_cons_one (n := 4) (d := ![2, 32, 128, 128]) _ y).trans ?_
  funext a
  fin_cases a <;> rfl

theorem rows_join :
    (bigSep Finset.univ fun j : Fin 4 => owns (c : Thread nD τ) (rowsM j) fullShare (chunkS X Wt c j) : sProp 𝕄)
      ⊢ owns (c : Thread nD τ) oM fullShare (outAll X Wt c) := by
  refine (each fun j _ => ?_).trans (owns_of_rects (c : Thread nD τ) oM fullShare oR (fun _ _ => rfl) rows_disj rows_cov (outAll X Wt c))
  refine Entails.of_eq (congrArg _ (funext fun y => ?_))
  rw [chunkS_at]
  unfold outAll
  have h1 : (((oR j).emb y) 1).val = 32 * j.val + (y 1).val := by
    show 32 * j.val + 1 * (y 1).val = _; rw [Nat.one_mul]
  have hy : (y 1).val < 32 := (y 1).isLt
  congr 1
  · exact Fin.ext (by show j.val = _ / 32; rw [h1]; omega)
  · funext a
    refine Fin.ext ?_
    fin_cases a
    · rfl
    · exact ((Nat.zero_add _).trans (Nat.one_mul _)).symm
    · show (y 1).val = _ % 32; rw [h1]; omega
    all_goals exact ((Nat.zero_add _).trans (Nat.one_mul _)).symm

/-! ## The device's own sums -/

/-- The two rows of slot 0, as the body stores them. -/
abbrev sumR : Rect S32x2x2x64 := Rect.unit (s := S32x2x2x64) ![0, 0, 0, 0] S1x1x2x64.size inb_S32x2x2x64_S1x1x2x64_0_0_0_0
abbrev sqR : Rect S32x2x2x64 := Rect.unit (s := S32x2x2x64) ![0, 1, 0, 0] S1x1x2x64.size inb_S32x2x2x64_S1x1x2x64_0_1_0_0

theorem slot0_set : (slotM 0).view.set = (slotR 0).set := (View.set_reshape _ _).trans (View.set_slice_whole _ _)
theorem sum_sub : sumR.set ⊆ (slotM 0).view.set := by
  rw [slot0_set]
  intro i hi
  rw [Rect.mem_set_unit] at hi ⊢
  intro a
  have := hi a
  fin_cases a
  · exact this
  · exact ⟨this.1, lt_of_lt_of_le this.2 (by decide)⟩
  all_goals exact this
theorem sq_sub : sqR.set ⊆ (slotM 0).view.set := by
  rw [slot0_set]
  intro i hi
  rw [Rect.mem_set_unit] at hi ⊢
  intro a
  have := hi a
  fin_cases a
  · exact this
  · exact ⟨Nat.zero_le _, lt_of_lt_of_le this.2 (by decide)⟩
  all_goals exact this

/-- Slot 0 after both stores. -/
theorem stored (f : cM.view.ty.Contents (Elt F)) (x : Vec F S2x128x64x128 .f32) :
    (slotM 0).view.read (Elt F) ((cM.access sqR).write (Elt F) ((cM.access sumR).write (Elt F) f (k0_pay2 x) Finset.univ) (k0_pay3 x) Finset.univ) = statS x := by
  funext y
  unfold statS
  generalize hz : Shape.reshapeEquiv squeezes_S1x2x2x64_S2x2x64.numel_eq y = z
  have hz0 : (z 0).val = 0 := by have : (z 0).val < 1 := (z 0).isLt; omega
  have hrd (g : cM.view.ty.Contents (Elt F)) : (slotM 0).view.read (Elt F) g y = g ((slotR 0).emb z) := by rw [← hz]; rfl
  rw [hrd]
  unfold stat
  by_cases h : (z 1).val = 0
  · rw [if_pos h]
    have e : (slotR 0).emb z = (cM.access sumR).emb (ix4 (0 : Fin 1) (0 : Fin 1) (z 2) (z 3)) := by
      funext a
      refine Fin.ext ?_
      fin_cases a
      · show 0 + 1 * (z 0).val = 0 + 1 * 0; rw [hz0]
      · show 0 + 1 * (z 1).val = 0 + 1 * 0; rw [h]
      all_goals rfl
    rw [View.write_of_not_mem, e, View.write_emb_of_mem (h := Finset.mem_univ _)]
    · rfl
    · rw [View.setOn_univ]
      show _ ∉ (cM.view.slice sqR).set
      rw [View.set_slice_whole, Rect.mem_set_unit]
      intro hm
      have : 1 ≤ 0 + 1 * (z 1).val := (hm 1).1
      rw [h] at this
      exact absurd this (by decide)
  · rw [if_neg h]
    have h1 : (z 1).val = 1 := by have : (z 1).val < 2 := (z 1).isLt; omega
    have e : (slotR 0).emb z = (cM.access sqR).emb (ix4 (0 : Fin 1) (0 : Fin 1) (z 2) (z 3)) := by
      funext a
      refine Fin.ext ?_
      fin_cases a
      · show 0 + 1 * (z 0).val = 0 + 1 * 0; rw [hz0]
      · show 0 + 1 * (z 1).val = 1 + 1 * 0; rw [h1]
      all_goals rfl
    rw [e, View.write_emb_of_mem (h := Finset.mem_univ _)]
    rfl

/-- The two stores into slot 0, and the loads before them. -/
theorem stat_step {Q : PUnit → sProp 𝕄} (x : Vec F S2x128x64x128 .f32) (k : PP F) :
    iprop((∃ Z : Vec F S2x2x64 .f32, owns (c : Thread nD τ) (slotM 0) fullShare Z) ∗ (owns (c : Thread nD τ) (slotM 0) fullShare (statS x) -∗ wpB c k Q))
      ⊢ wpB c (.op (.load cM sumR.toLoadRect (View.loadsAt_vmem h_S1x1x2x64)) fun _ =>
          .op (.store cM sumR (k0_pay2 x) Finset.univ (View.stores_vmem_bits_univ h_S1x1x2x64 rfl) (.inl rfl)) fun _ =>
          .op (.load cM sqR.toLoadRect (View.loadsAt_vmem h_S1x1x2x64)) fun _ =>
          .op (.store cM sqR (k0_pay3 x) Finset.univ (View.stores_vmem_bits_univ h_S1x1x2x64 rfl) (.inl rfl)) fun _ => k) Q := by
  have hs1 : (cM.access sumR).set ⊆ (slotM 0).view.set := by
    show (cM.view.slice sumR).set ⊆ _; rw [View.set_slice_whole]; exact sum_sub
  have hs2 : (cM.access sqR).set ⊆ (slotM 0).view.set := by
    show (cM.view.slice sqR).set ⊆ _; rw [View.set_slice_whole]; exact sq_sub
  iintro ⟨⟨%Z, H⟩, Hk⟩
  unfold owns
  icases H with ⟨%f, -, H⟩
  iapply (wp_load_rect 𝒱₀ (c : Thread nD τ) none Set.univ (m := cM) (r := sumR) hs1) $$ H
  iintro H
  iapply (wp_store 𝒱₀ (c : Thread nD τ) none Set.univ (m := cM) (r := sumR) ((subset_of_eq (View.setOn_univ _)).trans hs1)) $$ H
  iintro H
  iapply (wp_load_rect 𝒱₀ (c : Thread nD τ) none Set.univ (m := cM) (r := sqR) hs2) $$ H
  iintro H
  iapply (wp_store 𝒱₀ (c : Thread nD τ) none Set.univ (m := cM) (r := sqR) ((subset_of_eq (View.setOn_univ _)).trans hs2)) $$ H
  iintro H
  iapply Hk
  iexists _
  isplitr
  rotate_left
  · iexact H
  · ipureintro; exact stored f x

end Cert.KernelIdeal.Stats

end
-- ==== Proof.Body.lean ====
/- The body on one device, from what it holds at the start to what it leaves. -/
module

public import proofs.«01_k».proof.Proof.Slots

@[expose] public section

noncomputable section

namespace Cert.KernelIdeal.Stats

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (X : Dev nD → Vec F S2x128x64x128 .f32) (Wt : Dev nD → Vec F S64x128 .f32)
variable (K : GSem nD τ sig → ℕ) (c : Dev nD)

theorem offs_ne : ∀ d ∈ offs, d ≠ 0 := by decide

/-! ## The signals and the device's own sums -/

/-- A device's tokens for the barriers of the others. -/
def sigToks : sProp 𝕄 := bigSep nz fun d => dutyTok ER (barCell (c + d)) 0 (-d)

theorem signals {Q : PUnit → sProp 𝕄} (k : PP F) :
    iprop(sigI X Wt K c offs ∗ sigToks c ∗ (∃ Y : Vec F S32x2x2x64 .f32, owns (c : Thread nD τ) cM fullShare Y)
        ∗ ((sigI X Wt K c [] ∗ (∃ Z : Vec F S2x2x64 .f32, owns (c : Thread nD τ) (slotM 0) fullShare Z)) -∗ wpB c k Q))
      ⊢ wpB c (offs.foldr (sigStep c) k) Q := by
  iintro ⟨HI, Ht, ⟨%Y, Hc⟩, Hk⟩
  ihave Hs := (slots_of c Y) $$ Hc
  ihave Hs := (Entails.of_eq (nz_split fun d : Fin 32 => (iprop(∃ Z : Vec F S2x2x64 .f32, owns (c : Thread nD τ) (slotM d) fullShare Z) : sProp 𝕄))) $$ Hs
  icases Hs with ⟨H0, Hs⟩
  ihave Hs := (Entails.of_eq (nz_neg fun d : Fin 32 => (iprop(∃ Z : Vec F S2x2x64 .f32, owns (c : Thread nD τ) (slotM d) fullShare Z) : sProp 𝕄))) $$ Hs
  ihave Hp : (bigSep nz (sigPre (F := F) c) : sProp 𝕄) $$ [Ht Hs]
  · unfold sigToks sigPre
    iapply (zip nz (fun d => dutyTok ER (barCell (c + d)) 0 (-d)) (fun d : Fin 32 => (iprop(∃ Z : Vec F S2x2x64 .f32, owns (c : Thread nD τ) (slotM (-d)) fullShare Z) : sProp 𝕄)))
    isplitl [Ht]; · iexact Ht
    iexact Hs
  ihave Hp := (Entails.of_eq (nz_list (sigPre (F := F) c))) $$ Hp
  iapply (loop (sigStep c) (sigI X Wt K c) (sigPre c) (fun _ => iprop(emp)) (fun d hd l k => sig_step X Wt K c d hd l k) offs offs_ne k)
  isplitl [HI]; · iexact HI
  isplitl [Hp]; · iexact Hp
  iintro ⟨HI, -⟩
  iapply Hk
  isplitl [HI]; · iexact HI
  iexact H0

/-- The signals, the load of the operand, the two sums. -/
theorem phase_sums {Q : PUnit → sProp 𝕄} (k : PP F) :
    iprop(sigI X Wt K c offs ∗ sigToks c ∗ owns (c : Thread nD τ) xM fullShare (X c) ∗ (∃ Y : Vec F S32x2x2x64 .f32, owns (c : Thread nD τ) cM fullShare Y)
        ∗ ((sigI X Wt K c [] ∗ owns (c : Thread nD τ) xM fullShare (X c) ∗ owns (c : Thread nD τ) (slotM 0) fullShare (statS (X c))) -∗ wpB c k Q))
      ⊢ wpB c (offs.foldr (sigStep c) <|
          .op (.load xM (Rect.unit (s := S2x128x64x128) ![0, 0, 0, 0] S2x128x64x128.size inb_S2x128x64x128_S2x128x64x128_0_0_0_0).toLoadRect (View.loadsAt_vmem h_S2x128x64x128)) fun x =>
          .op (.load cM sumR.toLoadRect (View.loadsAt_vmem h_S1x1x2x64)) fun _ =>
          .op (.store cM sumR (k0_pay2 x) Finset.univ (View.stores_vmem_bits_univ h_S1x1x2x64 rfl) (.inl rfl)) fun _ =>
          .op (.load cM sqR.toLoadRect (View.loadsAt_vmem h_S1x1x2x64)) fun _ =>
          .op (.store cM sqR (k0_pay3 x) Finset.univ (View.stores_vmem_bits_univ h_S1x1x2x64 rfl) (.inl rfl)) fun _ => k) Q := by
  iintro ⟨HI, Ht, Hx, Hc, Hk⟩
  iapply (signals X Wt K c)
  isplitl [HI]; · iexact HI
  isplitl [Ht]; · iexact Ht
  isplitl [Hc]; · iexact Hc
  iintro ⟨HI, H0⟩
  iapply (load_owns xM (Rect.unit (s := S2x128x64x128) ![0, 0, 0, 0] S2x128x64x128.size inb_S2x128x64x128_S2x128x64x128_0_0_0_0) _ fullShare (X c))
  isplitl [Hx]; · iexact Hx
  iintro Hx
  have hx : (fun i => X c ((Rect.unit (s := S2x128x64x128) ![0, 0, 0, 0] S2x128x64x128.size inb_S2x128x64x128_S2x128x64x128_0_0_0_0).emb i)) = X c := by
    funext i
    refine congrArg (X c) (funext fun a => Fin.ext ?_)
    fin_cases a <;> exact (Nat.zero_add _).trans (Nat.one_mul _)
  rw [hx]
  iapply (stat_step c (X c) k)
  isplitl [H0]; · iexact H0
  iintro H0
  iapply Hk
  isplitl [HI]; · iexact HI
  isplitl [Hx]; · iexact Hx
  iexact H0

/-! ## The exchange -/

/-- A device's tokens for its copies: of its own send counters and of the receive counters they pay. -/
def copyToks : sProp 𝕄 := bigSep nz fun d => iprop(dutyTok ER (sendCell c d) 0 d ∗ dutyTok ER (recvCell (c + d) d) 0 d)
/-- The positions of the copies' counters, at round `r`. -/
def copyAt (r : ℕ) : sProp 𝕄 := bigSep nz fun d => iprop(atPos ER (sendCell c d) r ∅ 0 ∗ atPos ER (recvCell c d) r ∅ 0)
def recvCreds : sProp 𝕄 := bigSep nz fun d => cred (tallyAt (recvCell c d) () N)

theorem sends {Q : PUnit → sProp 𝕄} (k : PP F) :
    iprop(sendI X Wt K c offs ∗ bigSep nz (barPay c) ∗ copyToks c ∗ bigSep nz (sendPay X c)
        ∗ ((sendI X Wt K c [] ∗ bigSep nz fun d => cred (tallyAt (sendCell c d) () N)) -∗ wpB c k Q))
      ⊢ wpB c (offs.foldr (sendStep c) k) Q := by
  iintro ⟨HI, Hb, Ht, Hs, Hk⟩
  ihave Hp : (bigSep nz (sendPre X c) : sProp 𝕄) $$ [Hb Ht Hs]
  · unfold copyToks
    have h : (iprop(bigSep nz (barPay c) ∗ (bigSep nz fun d => iprop(dutyTok ER (sendCell c d) 0 d ∗ dutyTok ER (recvCell (c + d) d) 0 d)) ∗ bigSep nz (sendPay X c)) : sProp 𝕄)
        ⊢ bigSep nz (sendPre X c) := by
      refine (BIClass.sep_mono .rfl (zip nz _ _)).trans ((zip nz _ _).trans (each fun d _ => ?_))
      unfold sendPre
      iintro ⟨Hb, ⟨Hs, Hr⟩, Hp⟩
      isplitl [Hb]; · iexact Hb
      isplitl [Hs]; · iexact Hs
      isplitl [Hr]; · iexact Hr
      iexact Hp
    iapply h
    isplitl [Hb]; · iexact Hb
    isplitl [Ht]; · iexact Ht
    iexact Hs
  ihave Hp := (Entails.of_eq (nz_list (sendPre X c))) $$ Hp
  iapply (loop (sendStep c) (sendI X Wt K c) (sendPre X c) (fun d => cred (tallyAt (sendCell c d) () N)) (fun d hd l k => send_step X Wt K c d hd l k) offs offs_ne k)
  isplitl [HI]; · iexact HI
  isplitl [Hp]; · iexact Hp
  iintro ⟨HI, Hc⟩
  iapply Hk
  isplitl [HI]; · iexact HI
  iapply (Entails.of_eq (nz_list fun d => (cred (tallyAt (sendCell c d) () N) : sProp 𝕄)).symm); iexact Hc

theorem waits {Q : PUnit → sProp 𝕄} (k : PP F) :
    iprop(idle X Wt K c ∗ (bigSep nz fun d => cred (tallyAt (sendCell c d) () N)) ∗ recvCreds c ∗ copyAt c 0
        ∗ ((idle X Wt K c ∗ copyAt c 1 ∗ bigSep nz (sendPay X c) ∗ bigSep nz (recvPay X c)) -∗ wpB c k Q))
      ⊢ wpB c (offs.foldr waitStep k) Q := by
  iintro ⟨HI, Hs, Hr, Ha, Hk⟩
  ihave Hp : (bigSep nz (waitPre (F := F) c) : sProp 𝕄) $$ [Hs Hr Ha]
  · unfold recvCreds copyAt
    have h : (iprop((bigSep nz fun d => cred (tallyAt (sendCell c d) () N)) ∗ (bigSep nz fun d => cred (tallyAt (recvCell c d) () N))
        ∗ bigSep nz fun d => iprop(atPos ER (sendCell c d) 0 ∅ 0 ∗ atPos ER (recvCell c d) 0 ∅ 0)) : sProp 𝕄) ⊢ bigSep nz (waitPre (F := F) c) :=
      (BIClass.sep_mono .rfl (zip nz _ _)).trans ((zip nz _ _).trans (each fun d _ => .rfl))
    iapply h
    isplitl [Hs]; · iexact Hs
    isplitl [Hr]; · iexact Hr
    iexact Ha
  ihave Hp := (Entails.of_eq (nz_list (waitPre (F := F) c))) $$ Hp
  iapply (loop waitStep (fun _ => idle X Wt K c) (waitPre c) (waitPost X c) (fun d hd _ k => wait_step X Wt K c d hd k) offs offs_ne k)
  isplitl [HI]; · iexact HI
  isplitl [Hp]; · iexact Hp
  iintro ⟨HI, Hp⟩
  ihave Hp := (Entails.of_eq (nz_list (waitPost X c)).symm) $$ Hp
  have h : (bigSep nz (waitPost X c) : sProp 𝕄) ⊢ iprop(copyAt c 1 ∗ bigSep nz (sendPay X c) ∗ bigSep nz (recvPay X c)) := by
    unfold copyAt
    refine BIBase.Entails.trans (each (Ψ := fun d => iprop((atPos ER (sendCell c d) 1 ∅ 0 ∗ atPos ER (recvCell c d) 1 ∅ 0) ∗ sendPay X c d ∗ recvPay X c d)) fun d _ => ?_)
      ((unzip nz _ _).trans (BIClass.sep_mono .rfl (unzip nz _ _)))
    unfold waitPost
    iintro ⟨H1, H2, H3, H4⟩
    isplitl [H1 H2]
    · isplitl [H1]; · iexact H1
      iexact H2
    isplitl [H3]; · iexact H3
    iexact H4
  ihave Hp := h $$ Hp
  iapply Hk
  isplitl [HI]; · iexact HI
  iexact Hp

/-- The barrier wait, the copies, the waits for them: every slot filled. -/
theorem phase_exchange {Q : PUnit → sProp 𝕄} (k : PP F) :
    iprop(sendI X Wt K c offs ∗ levAts L lv ∗ cred (tallyAt (barCell c) () 31) ∗ atPos ER (barCell c) 0 ∅ 0 ∗ copyToks c ∗ recvCreds c ∗ copyAt c 0
        ∗ owns (c : Thread nD τ) (slotM 0) fullShare (statS (X c))
        ∗ ((idle X Wt K c ∗ atPos ER (barCell c) 1 ∅ 0 ∗ copyAt c 1 ∗ owns (c : Thread nD τ) cM fullShare (allStat X c)) -∗ wpB c k Q))
      ⊢ wpB c (.op (.semWait barS (31#32).toInt) fun _ => offs.foldr (sendStep c) <| offs.foldr waitStep k) Q := by
  iintro ⟨HI, Hlev, Hcb, Hab, Ht, Hcr, Hca, H0, Hk⟩
  unfold sendI
  icases HI with ⟨#Hctx, %W, HO⟩
  ihave #Hinv := (ctx_inv X Wt K c) $$ Hctx
  rw [thirtyone_int]
  iapply (Rounds.wp_wait_rest_token 𝒱₀ ER (rd X Wt) (c : Thread nD τ) none (κ := K (barCell c))
      (wpE_semWait_eq 𝒱₀ (c : Thread nD τ) none Set.univ) (Set.mem_univ _) () (O := ow c [] offs) (W := W) (R := 0) (m := 0) (T := ∅)
      ((Nat.zero_add _).trans (expect_bar X Wt c).symm)) $$ [Hcb HO Hab Hlev]
  · isplitr; · iapply (inv_bar X Wt K c); iexact Hinv
    isplitl [Hcb]; · iexact Hcb
    isplitl [HO]; · iexact HO
    isplitl [Hlev]; · iapply (mayWait_bar c); iexact Hlev
    iexact Hab
  iintro ⟨HO, Hab, -, Hpay⟩
  ihave Hb := (Entails.of_eq (rest_bar X Wt c)) $$ Hpay
  ihave H0 := (owns_shares (c : Thread nD τ) (slotM 0) (statS (X c))) $$ H0
  icases H0 with ⟨Hdrop, Htok⟩
  ihave Htok := (Entails.of_eq (nz_split fun d : Fin 32 => (owns (c : Thread nD τ) (slotM 0) (shareTok fullShare 32 d) (statS (X c)) : sProp 𝕄))) $$ Htok
  icases Htok with ⟨Htok0, Htok⟩
  iapply (sends X Wt K c)
  isplitl [HO]
  · unfold sendI
    isplitr; · iexact Hctx
    iexists _; iexact HO
  isplitl [Hb]; · iexact Hb
  isplitl [Ht]; · iexact Ht
  isplitl [Htok]; · unfold sendPay; iexact Htok
  iintro ⟨HI, Hcs⟩
  iapply (waits X Wt K c)
  isplitl [HI]
  · unfold sendI idle
    rw [ow_nil]
    iexact HI
  isplitl [Hcs]; · iexact Hcs
  isplitl [Hcr]; · iexact Hcr
  isplitl [Hca]; · iexact Hca
  iintro ⟨HI, Hca, Hs, Hr⟩
  iapply Hk
  isplitl [HI]; · iexact HI
  isplitl [Hab]; · iexact Hab
  isplitl [Hca]; · iexact Hca
  iapply (slots_join X c)
  iapply (Entails.of_eq (nz_split fun d : Fin 32 => (owns (c : Thread nD τ) (slotM d) fullShare (statS (X (c - d))) : sProp 𝕄)).symm)
  isplitr [Hr]
  rotate_left
  · unfold recvPay; iexact Hr
  rw [sub_zero]
  iapply (owns_unshare (c : Thread nD τ) (slotM 0) (statS (X c)))
  isplitl [Hdrop]; · iexact Hdrop
  iapply (Entails.of_eq (nz_split fun d : Fin 32 => (owns (c : Thread nD τ) (slotM 0) (shareTok fullShare 32 d) (statS (X c)) : sProp 𝕄)).symm)
  isplitl [Htok0]; · iexact Htok0
  unfold sendPay; iexact Hs

/-! ## The chunks -/

def stToks : sProp 𝕄 := bigSep Finset.univ fun s : Fin 2 => iprop(dutyTok ER (stCell c s) 0 0 ∗ dutyTok ER (stCell c s) 1 0)
def stAt (r : ℕ) : sProp 𝕄 := bigSep Finset.univ fun s : Fin 2 => atPos ER (stCell c s) r ∅ 0

omit [FloatOps F] in
theorem two (Φ : Fin 2 → sProp 𝕄) : bigSep Finset.univ Φ = (iprop(Φ 0 ∗ Φ 1) : sProp 𝕄) := bigSep_univ_two Φ
omit [FloatOps F] in
theorem four (Φ : Fin 4 → sProp 𝕄) : bigSep Finset.univ Φ = (iprop(Φ 0 ∗ Φ 1 ∗ Φ 2 ∗ Φ 3) : sProp 𝕄) :=
  bigSep_univ_eq_bigSepL [0, 1, 2, 3] (by decide) (by decide) Φ

/-- The last chunk of each staging slot. -/
def lastJ (s : Fin 2) : Fin 4 := jOf s 1

theorem phase_chunks {Q : PUnit → sProp 𝕄} (k : PP F) :
    iprop(idle X Wt K c ∗ owns (c : Thread nD τ) xM fullShare (X c) ∗ owns (c : Thread nD τ) wM fullShare (Wt c)
        ∗ (∃ Y : Vec F S2x2x32x128x128 .f32, owns (c : Thread nD τ) bM fullShare Y) ∗ (∃ Y : Vec F S2x128x128x128 .f32, owns (c : Thread nD τ) oM fullShare Y)
        ∗ stToks c ∗ stAt c 0
        ∗ ((idle X Wt K c ∗ owns (c : Thread nD τ) xM fullShare (X c) ∗ owns (c : Thread nD τ) wM fullShare (Wt c)
            ∗ (∃ Y : Vec F S2x2x32x128x128 .f32, owns (c : Thread nD τ) bM fullShare Y) ∗ owns (c : Thread nD τ) oM fullShare (outAll X Wt c)
            ∗ stAt c 2) -∗ wpB c k Q))
      ⊢ wpB c (chunkStep 0 0 (k0_pay6 (k0_pay4 (allStat X c))) (k0_pay7 (k0_pay4 (allStat X c))) <|
          chunkStep 1 1 (k0_pay6 (k0_pay4 (allStat X c))) (k0_pay7 (k0_pay4 (allStat X c))) <|
          outStep 0 0 <|
          chunkStep 2 0 (k0_pay6 (k0_pay4 (allStat X c))) (k0_pay7 (k0_pay4 (allStat X c))) <|
          outStep 1 1 <|
          chunkStep 3 1 (k0_pay6 (k0_pay4 (allStat X c))) (k0_pay7 (k0_pay4 (allStat X c))) <|
          outStep 2 0 <|
          outStep 3 1 <| k) Q := by
  unfold stToks stAt
  simp only [two]
  iintro ⟨HI, Hx, Hw, ⟨%Yb, Hb⟩, ⟨%Yo, Ho⟩, ⟨⟨Ht00, Ht01⟩, ⟨Ht10, Ht11⟩⟩, ⟨Ha0, Ha1⟩, Hk⟩
  ihave Hb := (packs_of c Yb) $$ Hb
  ihave Hb := (Entails.of_eq (two fun s : Fin 2 => (iprop(∃ Z : Vec F S2x32x128x128 .f32, owns (c : Thread nD τ) (packM s) fullShare Z) : sProp 𝕄))) $$ Hb
  icases Hb with ⟨Hb0, Hb1⟩
  ihave Ho := (rows_of c Yo) $$ Ho
  ihave Ho := (Entails.of_eq (four fun j : Fin 4 => (iprop(∃ Z : Vec F S2x32x128x128 .f32, owns (c : Thread nD τ) (rowsM j) fullShare Z) : sProp 𝕄))) $$ Ho
  icases Ho with ⟨Ho0, Ho1, Ho2, Ho3⟩
  have hctx : idle X Wt K c ⊢ (iprop(idle X Wt K c ∗ reached ER (stCell c 0) 0 ∗ reached ER (stCell c 1) 0) : sProp 𝕄) := by
    unfold idle
    iintro ⟨#Hctx, HO⟩
    isplitl [HO]
    · isplitr; · iexact Hctx
      iexact HO
    isplitr
    · iapply (ctx_st X Wt K c 0); iexact Hctx
    · iapply (ctx_st X Wt K c 1); iexact Hctx
  ihave HI := hctx $$ HI
  icases HI with ⟨HI, Hr0, Hr1⟩
  iapply (chunk_step X Wt K c 0 0 0 rfl (by decide))
  isplitl [HI]; · iexact HI
  isplitl [Hx]; · iexact Hx
  isplitl [Hw]; · iexact Hw
  isplitl [Hb0]; · iexact Hb0
  isplitl [Ho0]; · iexact Ho0
  isplitl [Ht00]; · iexact Ht00
  isplitl [Hr0]; · iexact Hr0
  iintro ⟨HI, Hx, Hw, Hc0⟩
  iapply (chunk_step X Wt K c 1 1 0 rfl (by decide))
  isplitl [HI]; · iexact HI
  isplitl [Hx]; · iexact Hx
  isplitl [Hw]; · iexact Hw
  isplitl [Hb1]; · iexact Hb1
  isplitl [Ho1]; · iexact Ho1
  isplitl [Ht10]; · iexact Ht10
  isplitl [Hr1]; · iexact Hr1
  iintro ⟨HI, Hx, Hw, Hc1⟩
  iapply (out_step X Wt K c 0 0 0 (by decide))
  isplitl [HI]; · iexact HI
  isplitl [Hc0]; · iexact Hc0
  isplitl [Ha0]; · iexact Ha0
  unfold stPay
  iintro ⟨HI, Ha0, Hr0, Ho0, Hb0⟩
  iapply (chunk_step X Wt K c 2 0 1 rfl (by decide))
  isplitl [HI]; · iexact HI
  isplitl [Hx]; · iexact Hx
  isplitl [Hw]; · iexact Hw
  isplitl [Hb0]; · iexists _; iexact Hb0
  isplitl [Ho2]; · iexact Ho2
  isplitl [Ht01]; · iexact Ht01
  isplitl [Hr0]; · iexact Hr0
  iintro ⟨HI, Hx, Hw, Hc0⟩
  iapply (out_step X Wt K c 1 1 0 (by decide))
  isplitl [HI]; · iexact HI
  isplitl [Hc1]; · iexact Hc1
  isplitl [Ha1]; · iexact Ha1
  unfold stPay
  iintro ⟨HI, Ha1, Hr1, Ho1, Hb1⟩
  iapply (chunk_step X Wt K c 3 1 1 rfl (by decide))
  isplitl [HI]; · iexact HI
  isplitl [Hx]; · iexact Hx
  isplitl [Hw]; · iexact Hw
  isplitl [Hb1]; · iexists _; iexact Hb1
  isplitl [Ho3]; · iexact Ho3
  isplitl [Ht11]; · iexact Ht11
  isplitl [Hr1]; · iexact Hr1
  iintro ⟨HI, Hx, Hw, Hc1⟩
  iapply (out_step X Wt K c 2 0 1 (by decide))
  isplitl [HI]; · iexact HI
  isplitl [Hc0]; · iexact Hc0
  isplitl [Ha0]; · iexact Ha0
  unfold stPay
  iintro ⟨HI, Ha0, -, Ho2, Hb0⟩
  iapply (out_step X Wt K c 3 1 1 (by decide))
  isplitl [HI]; · iexact HI
  isplitl [Hc1]; · iexact Hc1
  isplitl [Ha1]; · iexact Ha1
  unfold stPay
  iintro ⟨HI, Ha1, -, Ho3, Hb1⟩
  iapply Hk
  isplitl [HI]; · iexact HI
  isplitl [Hx]; · iexact Hx
  isplitl [Hw]; · iexact Hw
  isplitl [Hb0 Hb1]
  · iexists packed X Wt c lastJ
    iapply (packs_join X Wt c lastJ)
    iapply (Entails.of_eq (two fun s : Fin 2 => (owns (c : Thread nD τ) (packM s) fullShare (chunkS X Wt c (lastJ s)) : sProp 𝕄)).symm)
    isplitl [Hb0]; · iexact Hb0
    iexact Hb1
  isplitl [Ho0 Ho1 Ho2 Ho3]
  · iapply (rows_join X Wt c)
    iapply (Entails.of_eq (four fun j : Fin 4 => (owns (c : Thread nD τ) (rowsM j) fullShare (chunkS X Wt c j) : sProp 𝕄)).symm)
    isplitl [Ho0]; · iexact Ho0
    isplitl [Ho1]; · iexact Ho1
    isplitl [Ho2]; · iexact Ho2
    iexact Ho3
  isplitl [Ha0]; · iexact Ha0
  iexact Ha1

/-! ## Closing the counters -/

/-- The round each of the body's own counters ends in. -/
def lastR : Fin 32 ⊕ Fin 32 ⊕ Fin 2 → ℕ := Sum.elim (fun d => if d = 0 then 0 else 1) (Sum.elim (fun d => if d = 0 then 0 else 1) fun _ => 2)
theorem later_own (o : Fin 32 ⊕ Fin 32 ⊕ Fin 2) : ∀ r, lastR o ≤ r → (rd X Wt).duties ((c : Thread nD τ), osem o) r = ∅ := by
  rcases o with d | d | s
  · exact later_send X Wt c d
  · exact later_recv X Wt c d
  · exact later_st X Wt c s

/-- The positions of the body's own counters, each at its round. -/
def ownAt (R : Fin 32 ⊕ Fin 32 ⊕ Fin 2 → ℕ) : sProp 𝕄 := bigSep Finset.univ fun o => atPos ER (((c : Thread nD τ), osem o) : GSem nD τ sig) (R o) ∅ 0

omit [FloatOps F] in
/-- The own counters: the unused two, the copies', the staging slots'. -/
theorem ownAt_eq (R : Fin 32 ⊕ Fin 32 ⊕ Fin 2 → ℕ) :
    (ownAt c R : sProp 𝕄) = iprop((atPos ER (sendCell c 0) (R (.inl 0)) ∅ 0 ∗ bigSep nz fun d => atPos ER (sendCell c d) (R (.inl d)) ∅ 0)
      ∗ (atPos ER (recvCell c 0) (R (.inr (.inl 0))) ∅ 0 ∗ bigSep nz fun d => atPos ER (recvCell c d) (R (.inr (.inl d))) ∅ 0)
      ∗ bigSep Finset.univ fun s : Fin 2 => atPos ER (stCell c s) (R (.inr (.inr s))) ∅ 0) := by
  unfold ownAt
  rw [bigSep_univ_sum, bigSep_univ_sum, nz_split, nz_split]
  rfl

omit [FloatOps F] in
theorem own_open : (ownAt c (fun _ => 0) : sProp 𝕄) ⊢ iprop((atPos ER (sendCell c 0) 0 ∅ 0 ∗ atPos ER (recvCell c 0) 0 ∅ 0) ∗ copyAt c 0 ∗ stAt c 0) := by
  rw [ownAt_eq]
  unfold copyAt stAt
  iintro ⟨⟨H1, H2⟩, ⟨H3, H4⟩, H5⟩
  isplitl [H1 H3]
  · isplitl [H1]; · iexact H1
    iexact H3
  isplitl [H2 H4]
  · iapply (zip nz (fun d => (atPos ER (sendCell c d) 0 ∅ 0 : sProp 𝕄)) fun d => atPos ER (recvCell c d) 0 ∅ 0)
    isplitl [H2]; · iexact H2
    iexact H4
  iexact H5
omit [FloatOps F] in
theorem own_last : (iprop((atPos ER (sendCell c 0) 0 ∅ 0 ∗ atPos ER (recvCell c 0) 0 ∅ 0) ∗ copyAt c 1 ∗ stAt c 2) : sProp 𝕄) ⊢ ownAt c lastR := by
  rw [ownAt_eq]
  unfold copyAt stAt
  iintro ⟨⟨H1, H3⟩, H, H5⟩
  ihave H := (unzip nz (fun d => (atPos ER (sendCell c d) 1 ∅ 0 : sProp 𝕄)) fun d => atPos ER (recvCell c d) 1 ∅ 0) $$ H
  icases H with ⟨H2, H4⟩
  have e (Φ : Fin 32 → ℕ → sProp 𝕄) : bigSep nz (fun d => Φ d 1) ⊢ bigSep nz fun d => Φ d (if d = 0 then 0 else 1) :=
    each fun d hd => by rw [if_neg (Finset.ne_of_mem_erase hd)]
  isplitl [H1 H2]
  · isplitl [H1]; · iexact H1
    iapply (e fun d r => atPos ER (sendCell c d) r ∅ 0); iexact H2
  isplitl [H3 H4]
  · isplitl [H3]; · iexact H3
    iapply (e fun d r => atPos ER (recvCell c d) r ∅ 0); iexact H4
  iexact H5

/-- The barrier and the own counters, closed at zero. -/
theorem close_all :
    iprop(ctx X Wt K c ∗ atPos ER (barCell c) 1 ∅ 0 ∗ ownAt c lastR)
      ⊢ (|={Set.univ}=> iprop(semVal (barCell c) 0 ∗ bigSep Finset.univ fun o => semVal ((c : Thread nD τ), osem o) 0) : sProp 𝕄) := by
  iintro ⟨#Hctx, Hb, Ho⟩
  ihave #Hinv := (ctx_inv X Wt K c) $$ Hctx
  imod (Rounds.cell_close ER (rd X Wt) (Set.mem_univ (K (barCell c))) id (later_bar X Wt c)) $$ [Hb] with Hb
  · isplitr; · iapply (inv_bar X Wt K c); iexact Hinv
    iexact Hb
  have h : (iprop(invAll X Wt K ∗ ownAt c lastR) : sProp 𝕄) ⊢ |={Set.univ}=> bigSep Finset.univ fun o => semVal ((c : Thread nD τ), osem o) 0 := by
    unfold ownAt
    refine BIBase.Entails.trans ?_ (bigSep_fupd _ _)
    refine BIBase.Entails.trans ?_ (each (Φ := fun o => iprop(cellInv ER (rd X Wt) (K ((c : Thread nD τ), osem o)) ((c : Thread nD τ), osem o)
      ∗ atPos ER (((c : Thread nD τ), osem o) : GSem nD τ sig) (lastR o) ∅ 0)) fun o _ =>
        Rounds.cell_close ER (rd X Wt) (Set.mem_univ (K ((c : Thread nD τ), osem o))) id (later_own X Wt c o))
    refine BIBase.Entails.trans (BIClass.sep_mono (bigSep_intro_persistent fun o _ => inv_sc X Wt K c o) .rfl) (zip _ _ _)
  imod h $$ [Ho] with Ho
  · isplitr; · iexact Hinv
    iexact Ho
  imodintro
  isplitl [Hb]; · iexact Hb
  iexact Ho

/-! ## The body -/

/-- What device `c` holds when the body starts. -/
def bodyPre : sProp 𝕄 :=
  iprop(ctx X Wt K c ∗ (∃ W, owes (c : Thread nD τ) (ow c offs offs) W) ∗ atPos ER (barCell c) 0 ∅ 0 ∗ ownAt c (fun _ => 0)
    ∗ (sigToks c ∗ copyToks c ∗ stToks c) ∗ (cred (tallyAt (barCell c) () 31) ∗ recvCreds c) ∗ levAts L lv
    ∗ owns (c : Thread nD τ) xM fullShare (X c) ∗ owns (c : Thread nD τ) wM fullShare (Wt c)
    ∗ (∃ Y : Vec F S32x2x2x64 .f32, owns (c : Thread nD τ) cM fullShare Y)
    ∗ (∃ Y : Vec F S2x2x32x128x128 .f32, owns (c : Thread nD τ) bM fullShare Y) ∗ (∃ Y : Vec F S2x128x128x128 .f32, owns (c : Thread nD τ) oM fullShare Y))
/-- What it leaves. -/
def bodyPost : sProp 𝕄 :=
  iprop((semVal (barCell c) 0 ∗ bigSep Finset.univ fun o => semVal ((c : Thread nD τ), osem o) 0)
    ∗ (∃ W, owes (c : Thread nD τ) (0 : CellTallies nD τ sig Unit) W)
    ∗ owns (c : Thread nD τ) xM fullShare (X c) ∗ owns (c : Thread nD τ) wM fullShare (Wt c)
    ∗ (∃ Y : Vec F S32x2x2x64 .f32, owns (c : Thread nD τ) cM fullShare Y)
    ∗ (∃ Y : Vec F S2x2x32x128x128 .f32, owns (c : Thread nD τ) bM fullShare Y) ∗ owns (c : Thread nD τ) oM fullShare (outAll X Wt c))

theorem body_run {Q : PUnit → sProp 𝕄} : iprop(bodyPre X Wt K c ∗ (bodyPost X Wt c -∗ Q ⟨⟩)) ⊢ wpB c prog Q := by
  unfold bodyPre prog
  iintro ⟨⟨#Hctx, HO, Hab, Hown, ⟨Hst, Hct, Htt⟩, ⟨Hcb, Hcr⟩, Hlev, Hx, Hw, Hc, Hb, Ho⟩, Hk⟩
  ihave Hown := (own_open c) $$ Hown
  icases Hown with ⟨H00, Hca, Hsa⟩
  iapply (Entails.of_eq (wp_deviceId 𝒱₀ (c : Thread nD τ) none Set.univ).symm)
  iapply (phase_sums X Wt K c)
  isplitl [HO]
  · unfold sigI
    isplitr; · iexact Hctx
    iexact HO
  isplitl [Hst]; · iexact Hst
  isplitl [Hx]; · iexact Hx
  isplitl [Hc]; · iexact Hc
  iintro ⟨HI, Hx, H0⟩
  iapply (phase_exchange X Wt K c)
  isplitl [HI]; · unfold sigI sendI; iexact HI
  isplitl [Hlev]; · iexact Hlev
  isplitl [Hcb]; · iexact Hcb
  isplitl [Hab]; · iexact Hab
  isplitl [Hct]; · iexact Hct
  isplitl [Hcr]; · iexact Hcr
  isplitl [Hca]; · iexact Hca
  isplitl [H0]; · iexact H0
  iintro ⟨HI, Hab, Hca, Hc⟩
  iapply (load_owns cM (Rect.unit (s := S32x2x2x64) ![0, 0, 0, 0] S32x2x2x64.size inb_S32x2x2x64_S32x2x2x64_0_0_0_0) _ fullShare (allStat X c))
  isplitl [Hc]; · iexact Hc
  iintro Hc
  have hc : (fun i => allStat X c ((Rect.unit (s := S32x2x2x64) ![0, 0, 0, 0] S32x2x2x64.size inb_S32x2x2x64_S32x2x2x64_0_0_0_0).emb i)) = allStat X c := by
    funext i
    refine congrArg (allStat X c) (funext fun a => Fin.ext ?_)
    fin_cases a <;> exact (Nat.zero_add _).trans (Nat.one_mul _)
  rw [hc]
  iapply (phase_chunks X Wt K c)
  isplitl [HI]; · iexact HI
  isplitl [Hx]; · iexact Hx
  isplitl [Hw]; · iexact Hw
  isplitl [Hb]; · iexact Hb
  isplitl [Ho]; · iexact Ho
  isplitl [Htt]; · iexact Htt
  isplitl [Hsa]; · iexact Hsa
  iintro ⟨HI, Hx, Hw, Hb, Ho, Hsa⟩
  ihave Hown := (own_last c) $$ [H00 Hca Hsa]
  · isplitl [H00]; · iexact H00
    isplitl [Hca]; · iexact Hca
    iexact Hsa
  unfold idle
  icases HI with ⟨-, HO⟩
  unfold wpB
  rw [wp_ret]
  imod (close_all X Wt K c) $$ [Hab Hown] with ⟨Hsem1, Hsem2⟩
  · isplitr; · iexact Hctx
    isplitl [Hab]; · iexact Hab
    iexact Hown
  imodintro
  iapply Hk
  unfold bodyPost
  isplitl [Hsem1 Hsem2]
  · isplitl [Hsem1]; · iexact Hsem1
    iexact Hsem2
  isplitl [HO]; · iexact HO
  isplitl [Hx]; · iexact Hx
  isplitl [Hw]; · iexact Hw
  isplitl [Hc]; · iexists _; iexact Hc
  isplitl [Hb]; · iexact Hb
  iexact Ho

end Cert.KernelIdeal.Stats

end
-- ==== Proof.Ghost.lean ====
/- The exchange's ghost state at the launch: the tokens of every payment, dealt to the devices that pay; the credit of what the
   others owe; and the body's own counters opened when the kernel is entered. -/
module

public import proofs.«01_k».proof.Proof.Body

@[expose] public section

noncomputable section

namespace Cert.KernelIdeal.Stats

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (X : Dev nD → Vec F S2x128x64x128 .f32) (Wt : Dev nD → Vec F S64x128 .f32)

/-! ## Opening the body's own counters -/

/-- A device's tokens. -/
def payToks (c : Dev nD) : sProp 𝕄 := iprop(sigToks c ∗ copyToks c ∗ stToks c)
/-- What a device keeps of the exchange until it enters the kernel. -/
def kept (c : Dev nD) : sProp 𝕄 :=
  iprop(atPos ER (barCell c) 0 ∅ 0 ∗ (bigSep Finset.univ fun o => openTok ER (((c : Thread nD τ), osem o) : GSem nD τ sig)) ∗ payToks c)
/-- The same once the counters are open. -/
def opened (K : GSem nD τ sig → ℕ) (c : Dev nD) : sProp 𝕄 :=
  iprop(ctx X Wt K c ∗ atPos ER (barCell c) 0 ∅ 0 ∗ ownAt c (fun _ => 0) ∗ payToks c)

theorem open_one (K : GSem nD τ sig → ℕ) (c : Dev nD) (o : Fin 32 ⊕ Fin 32 ⊕ Fin 2) :
    (iprop(invAll X Wt K ∗ (openTok ER (((c : Thread nD τ), osem o) : GSem nD τ sig) ∗ semVal ((c : Thread nD τ), osem o) 0)) : sProp 𝕄)
      ⊢ |={Set.univ}=> iprop(atPos ER (((c : Thread nD τ), osem o) : GSem nD τ sig) 0 ∅ 0 ∗ reached ER ((c : Thread nD τ), osem o) 0) := by
  iintro ⟨#Hinv, Ho, Hs⟩
  iapply (Rounds.cell_open ER (rd X Wt) (g := (((c : Thread nD τ), osem o) : GSem nD τ sig)) (Set.mem_univ (K ((c : Thread nD τ), osem o))))
  isplitr; · iapply (inv_sc X Wt K c o); iexact Hinv
  isplitl [Ho]; · iexact Ho
  iexact Hs

theorem open_all (K : GSem nD τ sig → ℕ) (c : Dev nD) :
    (iprop(invAll X Wt K ∗ kept c ∗ bigSep Finset.univ fun o => semVal (((c : Thread nD τ), osem o) : GSem nD τ sig) 0) : sProp 𝕄)
      ⊢ |={Set.univ}=> opened X Wt K c := by
  unfold kept opened
  iintro ⟨#Hinv, ⟨Hb, Ho, Ht⟩, Hs⟩
  ihave H := (zip Finset.univ (fun o => (openTok ER (((c : Thread nD τ), osem o) : GSem nD τ sig) : sProp 𝕄))
    fun o => semVal (((c : Thread nD τ), osem o) : GSem nD τ sig) 0) $$ [Ho Hs]
  · isplitl [Ho]; · iexact Ho
    iexact Hs
  ihave H := (bigSep_with_persistent (S := Finset.univ) (R := invAll X Wt K)
    (Φ := fun o => (iprop(openTok ER (((c : Thread nD τ), osem o) : GSem nD τ sig) ∗ semVal (((c : Thread nD τ), osem o) : GSem nD τ sig) 0) : sProp 𝕄))
    (fun o _ => open_one X Wt K c o)) $$ [H]
  · isplitr; · iexact Hinv
    iexact H
  imod (bigSep_fupd Finset.univ (fun o => (iprop(atPos ER (((c : Thread nD τ), osem o) : GSem nD τ sig) 0 ∅ 0 ∗ reached ER ((c : Thread nD τ), osem o) 0) : sProp 𝕄))) $$ H with H
  ihave H := (unzip Finset.univ (fun o => (atPos ER (((c : Thread nD τ), osem o) : GSem nD τ sig) 0 ∅ 0 : sProp 𝕄))
    fun o => reached ER (((c : Thread nD τ), osem o) : GSem nD τ sig) 0) $$ H
  icases H with ⟨Ha, #Hr⟩
  imodintro
  isplitr
  · unfold ctx
    isplitr; · iexact Hinv
    iexact Hr
  isplitl [Hb]; · iexact Hb
  isplitl [Ha]; · unfold ownAt; iexact Ha
  iexact Ht

/-! ## The tokens -/

/-- A payment into a counter of one device: the counter, the round, the payer. -/
abbrev Pay : Type := Fin 32 ⊕ Fin 32 ⊕ Fin 32 ⊕ (Fin 2 × Fin 2)
def paySem : Pay → SemLoc sig :=
  Sum.elim (fun _ => .reg barS) (Sum.elim (fun d => .dma (sendS d)) (Sum.elim (fun d => .dma (recvS d)) fun p => .dma (stS p.1)))
def payRound : Pay → ℕ := Sum.elim (fun _ => 0) (Sum.elim (fun _ => 0) (Sum.elim (fun _ => 0) fun p => p.2.val))
def payDuty : Pay → Fin 32 := Sum.elim (fun e => e) (Sum.elim (fun d => d) (Sum.elim (fun d => d) fun _ => 0))

theorem pay_inj (a b : Pay) (h : paySem a = paySem b) (hr : payRound a = payRound b) (hd : payDuty a = payDuty b) : a = b := by
  have hk := congrArg kind h
  rcases a with d | d | d | ⟨s, r⟩ <;> rcases b with d' | d' | d' | ⟨s', r'⟩ <;>
    simp only [paySem, Sum.elim_inl, Sum.elim_inr, kind_bar, kind_send, kind_recv, kind_st, Kind.send.injEq, Kind.recv.injEq, Kind.st.injEq, reduceCtorEq] at hk
  · exact congrArg Sum.inl hd
  · rw [hk]
  · rw [hk]
  · rw [hk, show r = r' from Fin.ext hr]

def toks : Finset (GSem nD τ sig × ℕ × Fin 32) :=
  Finset.univ.map ⟨fun p : Dev nD × Pay => (((p.1 : Thread nD τ), paySem p.2), payRound p.2, payDuty p.2), fun p q h =>
    Prod.ext (congrArg (fun t : GSem nD τ sig × ℕ × Fin 32 => t.1.1.1) h)
      (pay_inj _ _ (congrArg (fun t : GSem nD τ sig × ℕ × Fin 32 => t.1.2) h) (congrArg (fun t : GSem nD τ sig × ℕ × Fin 32 => t.2.1) h)
        (congrArg (fun t : GSem nD τ sig × ℕ × Fin 32 => t.2.2) h))⟩

omit [FloatOps F] in
/-- A family over devices and offsets, each device's members taken to the device that pays. -/
theorem deal (e : Dev nD × Fin 32 ≃ Dev nD × Fin 32) (Φ : Dev nD → Fin 32 → sProp 𝕄) :
    (bigSep Finset.univ fun c => bigSep Finset.univ (Φ c))
      = bigSep Finset.univ fun c => bigSep Finset.univ fun d => Φ (e (c, d)).1 (e (c, d)).2 := by
  have h1 := bigSep_univ_prod (fun p : Dev nD × Fin 32 => Φ p.1 p.2)
  have h2 := bigSep_univ_prod (fun p : Dev nD × Fin 32 => Φ (e p).1 (e p).2)
  exact h1.symm.trans ((bigSep_univ_equiv e (fun p : Dev nD × Fin 32 => Φ p.1 p.2)).trans h2)

/-- From the device at offset `d`, back at offset `-d`. -/
def across : Dev nD × Fin 32 ≃ Dev nD × Fin 32 where
  toFun p := (p.1 + p.2, -p.2)
  invFun p := (p.1 + p.2, -p.2)
  left_inv p := Prod.ext (add_neg_cancel_right p.1 p.2) (neg_neg p.2)
  right_inv p := Prod.ext (add_neg_cancel_right p.1 p.2) (neg_neg p.2)
/-- The device at offset `d`, at the same offset. -/
def ahead : Dev nD × Fin 32 ≃ Dev nD × Fin 32 where
  toFun p := (p.1 + p.2, p.2)
  invFun p := (p.1 - p.2, p.2)
  left_inv p := Prod.ext (add_sub_cancel_right p.1 p.2) rfl
  right_inv p := Prod.ext (sub_add_cancel p.1 p.2) rfl

omit [FloatOps F] in
theorem nz_of (Φ : Fin 32 → sProp 𝕄) : bigSep Finset.univ Φ ⊢ (bigSep nz Φ : sProp 𝕄) := by
  rw [nz_split]
  iintro ⟨-, H⟩
  iexact H

/-- Every token, with the device that pays it. -/
theorem toks_deal : (bigSep toks fun x => (dutyTok ER x.1 x.2.1 x.2.2 : sProp 𝕄)) ⊢ bigSep Finset.univ fun c : Dev nD => payToks c := by
  have hs (c : Dev nD) : (bigSep Finset.univ fun p : Pay => (dutyTok ER (((c : Thread nD τ), paySem p) : GSem nD τ sig) (payRound p) (payDuty p) : sProp 𝕄))
      = iprop((bigSep Finset.univ fun e => dutyTok ER (barCell c) 0 e) ∗ (bigSep Finset.univ fun d => dutyTok ER (sendCell c d) 0 d)
        ∗ (bigSep Finset.univ fun d => dutyTok ER (recvCell c d) 0 d) ∗ bigSep Finset.univ fun p : Fin 2 × Fin 2 => dutyTok ER (stCell c p.1) p.2.val 0) := by
    rw [bigSep_univ_sum, bigSep_univ_sum, bigSep_univ_sum]
    rfl
  have ht : (bigSep toks fun x => (dutyTok ER x.1 x.2.1 x.2.2 : sProp 𝕄))
      = bigSep Finset.univ fun c : Dev nD => bigSep Finset.univ fun p : Pay => dutyTok ER (((c : Thread nD τ), paySem p) : GSem nD τ sig) (payRound p) (payDuty p) := by
    unfold toks
    rw [bigSep_map, bigSep_univ_prod]
    rfl
  rw [ht, bigSep_congr fun c _ => hs c]
  rw [bigSep_sep', bigSep_sep', bigSep_sep', deal across, deal ahead fun c d => dutyTok ER (recvCell c d) 0 d]
  have hp (c : Dev nD) : (iprop((bigSep Finset.univ fun e => dutyTok ER (barCell (c + e)) 0 (-e)) ∗ (bigSep Finset.univ fun d => dutyTok ER (sendCell c d) 0 d)
      ∗ (bigSep Finset.univ fun d => dutyTok ER (recvCell (c + d) d) 0 d) ∗ bigSep Finset.univ fun p : Fin 2 × Fin 2 => dutyTok ER (stCell c p.1) p.2.val 0) : sProp 𝕄)
      ⊢ payToks c := by
    unfold payToks sigToks copyToks stToks
    rw [bigSep_univ_prod]
    iintro ⟨H1, H2, H3, H4⟩
    isplitl [H1]; · iapply (nz_of fun e => (dutyTok ER (barCell (c + e)) 0 (-e) : sProp 𝕄)); iexact H1
    isplitl [H2 H3]
    · iapply (zip nz (fun d => (dutyTok ER (sendCell c d) 0 d : sProp 𝕄)) fun d => dutyTok ER (recvCell (c + d) d) 0 d)
      isplitl [H2]; · iapply (nz_of fun d => (dutyTok ER (sendCell c d) 0 d : sProp 𝕄)); iexact H2
      iapply (nz_of fun d => (dutyTok ER (recvCell (c + d) d) 0 d : sProp 𝕄)); iexact H3
    · iapply (each (s := Finset.univ) (Φ := fun s : Fin 2 => (bigSep Finset.univ fun r : Fin 2 => (dutyTok ER (stCell c s) r.val 0 : sProp 𝕄)))
        (Ψ := fun s : Fin 2 => (iprop(dutyTok ER (stCell c s) 0 0 ∗ dutyTok ER (stCell c s) 1 0) : sProp 𝕄))
        fun s _ => Entails.of_eq (two fun r : Fin 2 => (dutyTok ER (stCell c s) r.val 0 : sProp 𝕄)))
      iexact H4
  refine Entails.trans (Entails.of_eq ?_) (each (s := Finset.univ) fun c _ => hp c)
  rw [bigSep_sep', bigSep_sep', bigSep_sep']
  rfl

/-! ## The credit -/

theorem offs_sum (f : Fin 32 → ℕ) : (offs.map f).sum = ∑ k ∈ nz, f k := by
  rw [← List.sum_toFinset f (show offs.Nodup by decide), show offs.toFinset = nz by decide]

theorem ow_apply (c : Dev nD) (ls lr : List (Fin 32)) (g : GSem nD τ sig) : ow c ls lr g ()
    = (ls.map fun k => if g = barCell (c + k) then 1 else 0).sum + (lr.map fun k => if g = recvCell (c + k) k then N else 0).sum := by
  induction ls with
  | nil =>
    induction lr with
    | nil => rw [ow_nil]; rfl
    | cons d lr ih =>
      rw [ow_cons_recv, Pi.add_apply, Finsupp.add_apply, tallyAt_apply, ih, List.map_cons, List.sum_cons, List.map_nil, List.sum_nil]
      simp only [and_true, Nat.zero_add]
      exact Nat.add_comm _ _
  | cons d ls ih =>
    rw [ow_cons_bar, Pi.add_apply, Finsupp.add_apply, tallyAt_apply, ih, List.map_cons, List.sum_cons]
    simp only [and_true]
    rw [Nat.add_comm, ← Nat.add_assoc]

theorem bar_eq_iff (c c' : Dev nD) : barCell c = barCell c' ↔ c = c' :=
  ⟨fun h => congrArg (fun g : GSem nD τ sig => g.1.1) h, fun h => by rw [h]⟩
theorem recv_eq_iff (c c' : Dev nD) (d d' : Fin 32) : recvCell c d = recvCell c' d' ↔ c = c' ∧ d = d' :=
  ⟨fun h => ⟨congrArg (fun g : GSem nD τ sig => g.1.1) h, by
    have := congrArg (fun g : GSem nD τ sig => kind g.2) h
    simpa only [kind_recv, Kind.recv.injEq] using this⟩, fun h => by rw [h.1, h.2]⟩
theorem bar_ne_recv (c c' : Dev nD) (d : Fin 32) : barCell c ≠ recvCell c' d := fun h => by
  have := congrArg (fun g : GSem nD τ sig => kind g.2) h
  simp only [kind_bar, kind_recv, reduceCtorEq] at this

/-- One device sits at each offset behind. -/
theorem behind (c : Dev nD) (k : Fin 32) (n : ℕ) : (∑ d : Dev nD, if c = d + k then n else 0) = n := by
  rw [Finset.sum_congr rfl fun d _ => show (if c = d + k then n else 0) = if c - k = d then n else 0 from by
    simp only [sub_eq_iff_eq_add]]
  rw [Finset.sum_ite_eq, if_pos (Finset.mem_univ _)]

theorem owed_bar (c : Dev nD) : (∑ d : Dev nD, ow d offs offs (barCell c) ()) = 31 := by
  rw [Finset.sum_congr rfl fun d _ => show ow d offs offs (barCell c) () = ∑ k ∈ nz, if c = d + k then 1 else 0 from by
    rw [ow_apply, offs_sum, offs_sum]
    simp only [bar_eq_iff, bar_ne_recv, if_false, Finset.sum_const_zero, Nat.add_zero]]
  rw [Finset.sum_comm, Finset.sum_congr rfl fun k _ => behind c k 1]
  decide

theorem owed_recv (c : Dev nD) (e : Fin 32) (he : e ≠ 0) : (∑ d : Dev nD, ow d offs offs (recvCell c e) ()) = N := by
  rw [Finset.sum_congr rfl fun d _ => show ow d offs offs (recvCell c e) () = if c = d + e then N else 0 from by
    rw [ow_apply, offs_sum, offs_sum]
    simp only [recv_eq_iff, (bar_ne_recv _ _ _).symm, if_false, Finset.sum_const_zero, Nat.zero_add]
    rw [Finset.sum_eq_single_of_mem e (Finset.mem_erase.mpr ⟨he, Finset.mem_univ _⟩) fun k _ hk => if_neg fun h => hk h.2.symm]
    simp only [and_true]]
  exact behind c e N

/-- What the devices owe at the launch. -/
abbrev ow₀ (c : Dev nD) : CellTallies nD τ sig Unit := ow c offs offs

theorem launch_bar (c : Dev nD) :
    tallyOn (barCell c) (launchCredit (Pipeline.owing ow₀) 0 (barCell c)) = (tallyAt (barCell c) () 31 : CellTallies nD τ sig Unit) := by
  unfold tallyAt; refine congrArg _ (Finsupp.ext fun u => ?_); cases u
  rw [Pipeline.launchCredit_owing, Finsupp.single_eq_same, owed_bar]
theorem launch_recv (c : Dev nD) (e : Fin 32) (he : e ≠ 0) :
    tallyOn (recvCell c e) (launchCredit (Pipeline.owing ow₀) 0 (recvCell c e)) = (tallyAt (recvCell c e) () N : CellTallies nD τ sig Unit) := by
  unfold tallyAt; refine congrArg _ (Finsupp.ext fun u => ?_); cases u
  rw [Pipeline.launchCredit_owing, Finsupp.single_eq_same, owed_recv c e he]

def recvEmb : Fin 32 ↪ SemLoc sig := ⟨fun d => .dma (recvS d), fun a b h => by
  have := congrArg kind h
  simpa only [kind_recv, Kind.recv.injEq] using this⟩

theorem creds (c : Dev nD) : (Pipeline.launchCred ow₀ c : sProp 𝕄) ⊢ iprop(cred (tallyAt (barCell c) () 31) ∗ recvCreds c) := by
  unfold Pipeline.launchCred recvCreds
  have hsub : nz.map recvEmb ⊆ Finset.univ.erase (SemLoc.reg barS) := fun sm h => by
    obtain ⟨d, -, rfl⟩ := Finset.mem_map.mp h
    exact Finset.mem_erase.mpr ⟨fun h => bar_ne_recv c c d (congrArg (fun s => (((c : Thread nD τ), s) : GSem nD τ sig)) h.symm), Finset.mem_univ _⟩
  rw [bigSep_univ_at _ (SemLoc.reg barS), launch_bar]
  have hs (Φ : SemLoc sig → sProp 𝕄) : bigSep (Finset.univ.erase (SemLoc.reg barS)) Φ ⊢ bigSep nz fun d => Φ (.dma (recvS d)) := by
    have h : bigSep (Finset.univ.erase (SemLoc.reg barS)) Φ
        = iprop((bigSep nz fun d => Φ (.dma (recvS d))) ∗ bigSep (Finset.univ.erase (SemLoc.reg barS) \ nz.map recvEmb) Φ) :=
      (bigSep_sdiff_split hsub).trans (by rw [bigSep_map]; rfl)
    rw [h]
    iintro ⟨H, -⟩
    iexact H
  have he : (bigSep nz fun d => (cred (tallyOn (recvCell c d) (launchCredit (Pipeline.owing ow₀) 0 (recvCell c d))) : sProp 𝕄))
      ⊢ bigSep nz fun d => cred (tallyAt (recvCell c d) () N) :=
    each fun d hd => by rw [launch_recv c d (Finset.ne_of_mem_erase hd)]
  iintro ⟨H1, H2⟩
  isplitl [H1]; · iexact H1
  iapply he
  iapply (hs fun sm => cred (tallyOn (((c : Thread nD τ), sm) : GSem nD τ sig) (launchCredit (Pipeline.owing ow₀) 0 ((c : Thread nD τ), sm))))
  iexact H2

/-! ## The cells -/

theorem disjoint_cells : Disjoint barCells scCells := by
  rw [Finset.disjoint_left]
  intro g h₁ h₂
  obtain ⟨c, -, rfl⟩ := Finset.mem_map.mp h₁
  obtain ⟨p, -, h⟩ := Finset.mem_map.mp h₂
  have hk : kind (osem p.2) = .bar := congrArg (fun g : GSem nD τ sig => kind g.2) h
  obtain ⟨p1, d | d | s⟩ := p <;> simp only [osem, Sum.elim_inl, Sum.elim_inr, kind_send, kind_recv, kind_st, reduceCtorEq] at hk

theorem bar_family (Φ : GSem nD τ sig → sProp 𝕄) : bigSep barCells Φ = bigSep Finset.univ fun c : Dev nD => Φ (barCell c) := by
  unfold barCells; rw [bigSep_map]; rfl
theorem sc_family (Φ : GSem nD τ sig → sProp 𝕄) :
    bigSep scCells Φ = bigSep Finset.univ fun c : Dev nD => bigSep Finset.univ fun o => Φ ((c : Thread nD τ), osem o) := by
  unfold scCells; rw [bigSep_map, bigSep_univ_prod]; rfl

/-- The exchange funded: under one map of names every counter's invariant, and to each device what it keeps. -/
theorem fund :
    (iprop((bigSep Finset.univ fun c : Dev nD => semVal (barCell c) 0) ∗ BI.own (ER (launchOf barCells scCells toks))) : sProp 𝕄)
      ⊢ |={Set.univ}=> iprop(∃ K, invAll X Wt K ∗ bigSep Finset.univ fun c : Dev nD => kept c) := by
  rw [← bar_family fun g => semVal g 0]
  iintro H
  imod (Rounds.fund_launch ER (rd X Wt) disjoint_cells (fun g _ h => h) toks) $$ H with ⟨%κ, -, #Hinv, #Hr, Hat, Hopen, Htok⟩
  imodintro
  iexists κ
  isplitr
  · unfold invAll
    isplitr; · iexact Hinv
    iapply (Entails.of_eq (bar_family fun g => (reached ER g 0 : sProp 𝕄))); iexact Hr
  ihave Hat := (Entails.of_eq (bar_family fun g => (atPos ER g 0 ∅ 0 : sProp 𝕄))) $$ Hat
  ihave Hopen := (Entails.of_eq (sc_family fun g => (openTok ER g : sProp 𝕄))) $$ Hopen
  ihave Htok := (toks_deal (F := F)) $$ Htok
  unfold kept
  iapply (zip Finset.univ (fun c : Dev nD => (atPos ER (barCell c) 0 ∅ 0 : sProp 𝕄)) fun c : Dev nD =>
    iprop((bigSep Finset.univ fun o => openTok ER (((c : Thread nD τ), osem o) : GSem nD τ sig)) ∗ payToks c))
  isplitl [Hat]; · iexact Hat
  iapply (zip Finset.univ (fun c : Dev nD => (bigSep Finset.univ fun o => openTok ER (((c : Thread nD τ), osem o) : GSem nD τ sig) : sProp 𝕄)) fun c : Dev nD => payToks c)
  isplitl [Hopen]; · iexact Hopen
  iexact Htok

end Cert.KernelIdeal.Stats

end
-- ==== Proof.Run.lean ====
/- The run of @main on the thirty-two devices: the host operations, then the kernel; every device ends with its result at
   `outAll`, its arguments as they were, and every counter at zero. -/
module

public import proofs.«01_k».proof.Proof.Ghost
public import proofs.«01_k».proof.Proof.Gen.KernelIdeal.Frame

@[expose] public section

noncomputable section

namespace Cert.KernelIdeal.Stats

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Contents along @main -/

abbrev bufs : Finset (DevRef τ sig) := Pipeline.ucRefs τ sig
abbrev oRef : DevRef τ sig := Proc.devRef .tc main_v3

/-- The kernel's inputs on device `c`: the operand the host transposed, and the weights. -/
def Xm (c : Dev nD) : Vec F S2x128x64x128 .f32 := iblk m c 0 t0_0
def Wm (c : Dev nD) : Vec F S64x128 .f32 := iblk m c 1 t0_0

def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) oRef (outAll (Xm m) (Wm m) c)

theorem V₂_out (c : Dev nD) : V₂ m c oRef = outAll (Xm m) (Wm m) c := Function.update_self ..
theorem V₂_ne (c : Dev nD) {b : DevRef τ sig} (h : b ≠ oRef) : V₂ m c b = V₁ m c b := Function.update_of_ne h ..

omit [FloatOps F] in
theorem held_one (c : Dev nD) (W : Valuation τ sig (Elt F)) :
    (StableHlo.held (c : Thread nD τ) {oRef} W : sProp 𝕄) = owns (c : Thread nD τ) oM fullShare (W oRef) := by
  unfold StableHlo.held
  rw [BI.bigSep_singleton, owns_whole]

/-! ## The kernel's proof data -/

/-- The buffers and the register that the body holds beside its windows. -/
def scratch (c : Dev nD) : sProp 𝕄 :=
  iprop((∃ Y : Vec F S32x2x2x64 .f32, owns (c : Thread nD τ) cM fullShare Y) ∗ (∃ Y : Vec F S2x2x32x128x128 .f32, owns (c : Thread nD τ) bM fullShare Y)
    ∗ ∃ r, prngReg c r)
/-- What enters the body from the exchange. -/
def entry (c : Dev nD) : sProp 𝕄 :=
  iprop((∃ K, opened (Xm m) (Wm m) K c) ∗ (cred (tallyAt (barCell c) () 31) ∗ recvCreds c) ∗ levAts L lv)
def phi0 (c : Dev nD) : sProp 𝕄 := iprop(entry m c ∗ (∃ Y : Vec F S2x128x128x128 .f32, owns (c : Thread nD τ) oM fullShare Y) ∗ scratch c)
def phi1 (c : Dev nD) : sProp 𝕄 :=
  iprop((semVal (barCell c) 0 ∗ bigSep Finset.univ fun o => semVal (((c : Thread nD τ), osem o) : GSem nD τ sig) 0)
    ∗ owns (c : Thread nD τ) oM fullShare (outAll (Xm m) (Wm m) c) ∗ scratch c)

def dat (c : Dev nD) : Dat τ (Elt F) Unit ℕ UU ℕ cfg0 c where
  A w := V m c (Pipeline.arrRef spec0 w)
  after
    | 0 => fun t => iblk m c 0 t
    | 1 => fun t => iblk m c 1 t
    | ⟨_ + 2, h⟩ => absurd h (Nat.not_lt.2 (Nat.le_add_left _ _))
  Φ t := if t.val = 0 then phi0 m c else phi1 m c
  q _ := fullShare
  owed t := if t.val = 0 then ow c offs offs else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem before_0 (c : Dev nD) (t : Fin cfg0.N) (d) : (dat m c).before 0 t d = iblk m c 0 t :=
  ((dat m c).before_in_eq_fetched 0 rfl (fun _ => rfl) (fun _ _ _ => rfl) (fun _ => rfl) t d).trans rfl
theorem before_1 (c : Dev nD) (t : Fin cfg0.N) (d) : (dat m c).before 1 t d = iblk m c 1 t :=
  ((dat m c).before_in_eq_fetched 1 rfl (fun _ => rfl) (fun _ _ _ => rfl) (fun _ => rfl) t d).trans rfl

theorem owed_first (c : Dev nD) : (dat (F := F) m c).owed 0 = ow c offs offs := rfl
theorem owed_cast (c : Dev nD) : (dat (F := F) m c).owed t0_0.castSucc = ow c offs offs := rfl
theorem owed_succ (c : Dev nD) : (dat (F := F) m c).owed t0_0.succ = 0 := rfl
theorem owed_last (c : Dev nD) : (dat (F := F) m c).owed (Fin.last _) = 0 := by
  show (if (Fin.last cfg0.N).val = 0 then ow c offs offs else 0) = 0
  rw [Fin.val_last, if_neg (by rw [show cfg0.N = 1 from N_0]; decide)]

theorem owes_in {c : Dev nD} (t : Fin (cfg0.N + 1)) (O : CellTallies nD τ sig Unit) (h : (dat m c).owed t = O) :
    (iprop(∃ W, owes (c : Thread nD τ) O W) : sProp 𝕄) ⊢ (dat m c).owesAt () t := by
  unfold Dat.owesAt Pipeline.owesWithin Dat.bound
  rw [h, show (dat m c).recorded t = Set.univ from rfl]
  iintro ⟨%W, H⟩
  iexists W
  isplitr; · ipureintro; exact fun _ _ => Or.inl trivial
  iexact H
theorem owes_out {c : Dev nD} (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, H⟩
  iexists W
  iexact H

theorem body_ob (c : Dev nD) : BodyObligation (dat (F := F) m c) defs₀ 𝒱₀ () Set.univ := fun t => by
  obtain rfl := fin_N0 t
  rw [bigSep_W0, bigSep_W0]
  rw [show (dat m c).Φ t0_0.castSucc = phi0 m c from rfl, show (dat m c).Φ t0_0.succ = phi1 m c from rfl]
  rw [show (defs₀ (F := F) .tc cfg0.body (cfg0.bodyArgs t0_0 (cfg0.slots t0_0))) = prog from body_eq t0_0]
  dsimp only
  unfold phi0 phi1 entry scratch opened payToks
  iintro ⟨⟨⟨⟨%K, Hctx, Hab, Hown, Ht⟩, Hc, Hlev⟩, Ho, Hcm, Hbm, Hp⟩, HO, ⟨%d0, Hx⟩, ⟨%d1, Hw⟩⟩
  rw [before_0, before_1]
  ihave HO := (owes_out m t0_0.castSucc _ (owed_cast m c)) $$ HO
  iapply (body_run (Xm m) (Wm m) K c)
  isplitl [Hctx Hab Hown Ht Hc Hlev Ho Hcm Hbm HO Hx Hw]
  · unfold bodyPre
    isplitl [Hctx]; · iexact Hctx
    isplitl [HO]; · iexact HO
    isplitl [Hab]; · iexact Hab
    isplitl [Hown]; · iexact Hown
    isplitl [Ht]; · iexact Ht
    isplitl [Hc]; · iexact Hc
    isplitl [Hlev]; · iexact Hlev
    isplitl [Hx]; · iexact Hx
    isplitl [Hw]; · iexact Hw
    isplitl [Hcm]; · iexact Hcm
    isplitl [Hbm]; · iexact Hbm
    iexact Ho
  unfold bodyPost
  iintro ⟨Hs, HO, Hx, Hw, Hcm, Hbm, Ho⟩
  isplitl [Hs Ho Hcm Hbm Hp]
  · isplitl [Hs]; · iexact Hs
    isplitl [Ho]; · iexact Ho
    isplitl [Hcm]; · iexact Hcm
    isplitl [Hbm]; · iexact Hbm
    iexact Hp
  isplitl [HO]; · iapply (owes_in m t0_0.succ 0 (owed_succ m c)); iexact HO
  isplitl [Hx]; · iexact Hx
  iexact Hw

/-! ## The kernel as a segment -/

/-- What a device holds of the exchange when it enters the kernel, and when it leaves. -/
def Tk (c : Dev nD) : sProp 𝕄 :=
  iprop((∃ K, invAll (Xm m) (Wm m) K ∗ kept c) ∗ (cred (tallyAt (barCell c) () 31) ∗ recvCreds c))
def Yk (c : Dev nD) : sProp 𝕄 := semVal (barCell c) 0

theorem enter (c : Dev nD) : iprop(Tk m c ∗ Pipeline.ownSems0 osem c ∗ levAts L lv) ⊢ (|={Set.univ}=> entry m c : sProp 𝕄) := by
  unfold Tk entry Pipeline.ownSems0
  iintro ⟨⟨⟨%K, Hinv, Hk⟩, Hc⟩, Hs, Hlev⟩
  imod (open_all (Xm m) (Wm m) K c) $$ [Hinv Hk Hs] with H
  · isplitl [Hinv]; · iexact Hinv
    isplitl [Hk]; · iexact Hk
    iexact Hs
  imodintro
  isplitl [H]; · iexists K; iexact H
  isplitl [Hc]; · iexact Hc
  iexact Hlev

omit [FloatOps F] in
theorem scratch_in (c : Dev nD) : iprop(Pipeline.scopedRest (Pipeline.pin (pcfgs (F := F)) adm 0).spec c ∗ ∃ r, prngReg c r) ⊢ (scratch c : sProp 𝕄) := by
  rw [show (Pipeline.scopedRest (Pipeline.pin (pcfgs (F := F)) adm 0).spec c : sProp 𝕄) = _ from scopedRest0_eq c]
  unfold scratch
  iintro ⟨⟨⟨%f, Hb⟩, ⟨%g, Hc⟩⟩, Hp⟩
  isplitl [Hc]; · iexists g; rw [owns_whole]; iexact Hc
  isplitl [Hb]; · iexists f; rw [owns_whole]; iexact Hb
  iexact Hp
omit [FloatOps F] in
theorem scratch_out (c : Dev nD) : (scratch c : sProp 𝕄) ⊢ iprop(Pipeline.scopedRest (Pipeline.pin (pcfgs (F := F)) adm 0).spec c ∗ ∃ r, prngReg c r) := by
  rw [show (Pipeline.scopedRest (Pipeline.pin (pcfgs (F := F)) adm 0).spec c : sProp 𝕄) = _ from scopedRest0_eq c]
  unfold scratch
  iintro ⟨⟨%g, Hc⟩, ⟨%f, Hb⟩, Hp⟩
  isplitr [Hp]
  · isplitl [Hb]
    · iexists f; iapply (Entails.of_eq (owns_whole (c : Thread nD τ) cc0_scratch0 fullShare f)); iexact Hb
    · iexists g; iapply (Entails.of_eq (owns_whole (c : Thread nD τ) cc0_scratch1 fullShare g)); iexact Hc
  iexact Hp

theorem hin (c : Dev nD) : iprop(Pipeline.scopedRest (Pipeline.pin (pcfgs (F := F)) adm 0).spec c ∗ (∃ r, prngReg c r)
    ∗ StableHlo.held (c.tc : Thread nD τ) {oRef} (V₁ m c) ∗ entry m c) ⊢ (pdats m 0 c).Φ 0 := by
  rw [show (pdats m 0 c).Φ 0 = phi0 m c from rfl, held_one]
  unfold phi0
  iintro ⟨Hs, Hp, Ho, He⟩
  isplitl [He]; · iexact He
  isplitl [Ho]; · iexists _; iexact Ho
  iapply (scratch_in c)
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) {oRef} (V₂ m c) ∗ Pipeline.ownSems0 osem c ∗ Yk c) := by
  rw [show (pdats m 0 c).Φ (Fin.last _) = phi1 m c from rfl, held_one, V₂_out]
  unfold phi1 Yk Pipeline.ownSems0
  iintro ⟨⟨Hb, Hs⟩, Ho, Hc⟩
  ihave Hc := (scratch_out c) $$ Hc
  icases Hc with ⟨Hr, Hp⟩
  isplitl [Hr]; · iexact Hr
  isplitl [Hp]; · iexact Hp
  isplitl [Ho]; · iexact Ho
  isplitl [Hs]; · iexact Hs
  iexact Hb

theorem owed_cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then ow c offs offs else 0 := rfl
  rw [e] at h
  split at h
  · refine ⟨ow_L h, ?_⟩
    rcases ow_pos h with ⟨d, -, rfl⟩ | ⟨d, -, rfl⟩
    · rw [lv_bar]; decide
    · rw [lv_recv]; decide
  · exact absurd h (Nat.lt_irrefl 0)

theorem osem_facts : Pipeline.OwnSemFacts spec0 osem := ⟨by decide, osem_inj, by decide⟩

theorem kind_stage : ∀ (w : Fin 2) (s : Fin (spec0 w).nbuf), kind (.dma ((spec0 w).sem s)) = .other := by decide
theorem lv_stage (c : Dev nD) (w : Fin 2) (s : Fin (spec0 w).nbuf) : lv ((c : Thread nD τ), .dma ((spec0 w).sem s)) () = 0 := by
  simp only [lv, kind_stage]

/-- The windows' arrays are not the kernel's result. -/
theorem arr_ne (w : Fin 2) : (Proc.devRef .tc (Pipeline.arrRef spec0 w) : DevRef τ sig) ≠ oRef := by revert w; decide

theorem arr_end (c : Dev nD) (w : Fin 2) : (dat (F := F) m c).arrAt w cfg0.N = (dat m c).A w := by
  match w with
  | 0 => exact (dat m c).arrAt_in 0 rfl _
  | 1 => exact (dat m c).arrAt_in 1 rfl _

abbrev rest : Finset (DevRef τ sig) := bufs \ Pipeline.arrRefs (τ := τ) spec0
theorem out_rest : {oRef} ⊆ rest := by decide
theorem arrs_sub : Pipeline.arrRefs (τ := τ) spec0 ⊆ bufs := by decide

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def region : ℝ𝕊 0 :=
  Pipeline.RegionSeg.ofTalk (pcfgs (F := F)) adm (pdats m) () defs₀ 𝒱₀ L lv 0 osem osem_facts
    {oRef} rest out_rest launch0.toP rfl (fun c => (body_ob m c).loose)
    (fun _ => 0) ow₀ (fun c => (owed_first m c).trans (zero_add _).symm) (owed_last m) (fun _ => rfl)
    (fun c w => (pdats m 0 c).share_full (fun _ => rfl) w)
    (V₁ m) (V₂ m) (fun c b hb => V₂_ne m c fun e => (Finset.mem_sdiff.mp hb).2 (Finset.mem_singleton.mpr e))
    (Tk m) Yk (entry m) Yk (enter m) (hin m) (hout m)
    (fun c => by iintro H; imodintro; iexact H)
    (fun _ => 0)
    ⟨fun c w s => by rw [L_tc]; exact Finset.mem_singleton_self _, fun c w s => le_of_eq (lv_stage c w s), owed_cut m⟩
    (fun _ => iprop(emp))
    (fun c w => rfl) (fun c w => (arr_end m c w).trans (V₂_ne m c (arr_ne w)).symm)

/-! ## @main -/

/-- What rides beside the buffers up to the kernel. -/
def R (c : Dev nD) : sProp 𝕄 := iprop(Tk m c ∗ (∃ r, prngReg c r) ∗ ∃ W, owes (c : Thread nD τ) (ow₀ c) W)

omit [FloatOps F] in
theorem ops_sub [FloatOps F] : ∀ op ∈ (hostOps0 : List (HloOp τ sig (Elt F))), op.bufs ⊆ bufs := fun op h =>
  Pipeline.sub_ucRefs op (List.forall_iff_forall_mem.mp hostOps0_sub op h)

def host : ℍ := Pipeline.HostSeg.ofOps _ _ _ _ _ bufs hostOps0 ops_sub (List.forall_iff_forall_mem.mp hostOps0_fresh) (V₀ m) (R m)

theorem region_pre (c : Dev nD) : iprop(StableHlo.held (c : Thread nD τ) bufs (V₁ m c) ∗ R m c) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) rest (V₁ m c) ∗ emp) ∗ Tk m c ∗ ∃ Wd, owes (c : Thread nD τ) (0 + ow₀ c) Wd)
  rw [zero_add, StableHlo.held_sub_split (c : Thread nD τ) arrs_sub]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem region_post (c : Dev nD) : (region m).post c ⊢ iprop((StableHlo.held (c : Thread nD τ) bufs (V₂ m c) ∗ semVal (barCell c) 0)
    ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  rw [StableHlo.held_sub_split (c : Thread nD τ) arrs_sub]
  unfold Yk
  iintro ⟨Ha, -, ⟨Hr, -⟩, Hb, HO⟩
  isplitr [HO]
  · isplitr [Hb]
    · isplitl [Ha]; · iexact Ha
      iexact Hr
    iexact Hb
  iexact HO

abbrev segs : List (Pipeline.Seg (pcfgs (F := F)) adm (pdats m) () defs₀ 𝒱₀ L lv) := [.host (host m), .region (region m)]

/-! ## The launch -/

def u₀ : UU :=
  (initOf (Pipeline.cells (Pipeline.pin (pcfgs (F := F)) adm) cellOf_inj) (Pipeline.launchToks (Pipeline.pin (pcfgs (F := F)) adm) cellOf_inj),
    launchOf barCells scCells toks)

/-- The exchange's ghost state, held by device 0 until the devices are together. -/
def parked (c : Dev nD) : sProp 𝕄 := if c = 0 then BI.own (ER (launchOf barCells scCells toks)) else iprop(emp)
omit [FloatOps F] in
theorem parked_all : (bigSep Finset.univ fun c : Dev nD => parked (F := F) c) = BI.own (ER (launchOf barCells scCells toks)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked
  rw [if_pos rfl]
  exact BI.equiv_iff.mp sep_emp

theorem sems_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_bar : ∀ sm : SemLoc sig, sm.isScoped .tc = false → sm = .reg barS := by decide

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- A device's launch holdings beside its barrier and the parked state. -/
def own₀ (c : Dev nD) : sProp 𝕄 :=
  iprop(StableHlo.held (c : Thread nD τ) bufs (V₀ m c) ∗ (cred (tallyAt (barCell c) () 31) ∗ recvCreds c)
    ∗ (∃ r, prngReg c r) ∗ ∃ W, owes (c : Thread nD τ) (ow₀ c) W)

theorem launch_own (c : Dev nD) : (iprop(unscopedBufs c (fun b => m ((c : Thread nD τ).loc b)) ∗ unscopedSems0 c
      ∗ owes (c : Thread nD τ) (ow₀ c) ∅ ∗ Pipeline.launchCred ow₀ c ∗ prngReg c (ρ c) ∗ parked c) : sProp 𝕄)
    ⊢ iprop(own₀ m c ∗ semVal (barCell c) 0 ∗ parked c) := by
  rw [show (unscopedBufs c (fun b => m ((c : Thread nD τ).loc b)) : sProp 𝕄) = StableHlo.held (c : Thread nD τ) bufs (V₀ m c) from
    Pipeline.unscopedBufs_held c (V₀ m c), sems_bar]
  unfold own₀
  iintro ⟨Hh, Hs, HO, Hc, Hp, HG⟩
  ihave Hc := (creds c) $$ Hc
  isplitr [Hs HG]
  · isplitl [Hh]; · iexact Hh
    isplitl [Hc]; · iexact Hc
    isplitl [Hp]; · iexists (ρ c); iexact Hp
    iexists ∅; iexact HO
  isplitl [Hs]; · iexact Hs
  iexact HG

theorem start_one (K : GSem nD τ sig → ℕ) (c : Dev nD) : iprop(invAll (Xm m) (Wm m) K ∗ (own₀ m c ∗ kept c)) ⊢ (T₀ m c : sProp 𝕄) := by
  unfold own₀ T₀ R Tk
  iintro ⟨Hi, ⟨Hh, Hc, Hp, HO⟩, Hk⟩
  isplitl [Hh]; · iexact Hh
  isplitr [Hp HO]
  · isplitl [Hi Hk]
    · iexists K
      isplitl [Hi]; · iexact Hi
      iexact Hk
    iexact Hc
  isplitl [Hp]; · iexact Hp
  iexact HO

theorem launch_all :
    (iprop((bigSep Finset.univ fun c : Dev nD => iprop(unscopedBufs c (fun b => m ((c : Thread nD τ).loc b)) ∗ unscopedSems0 c
          ∗ owes (c : Thread nD τ) (ow₀ c) ∅ ∗ Pipeline.launchCred ow₀ c ∗ prngReg c (ρ c) ∗ parked c)) ∗ levAts L lv) : sProp 𝕄)
      ⊢ |={Set.univ}=> bigSep Finset.univ (T₀ m) := by
  iintro ⟨H, -⟩
  ihave H := (each (s := Finset.univ) fun c _ => launch_own m ρ c) $$ H
  ihave H := (unzip Finset.univ (own₀ m) fun c => iprop(semVal (barCell c) 0 ∗ parked c)) $$ H
  icases H with ⟨Ho, H⟩
  ihave H := (unzip Finset.univ (fun c : Dev nD => (semVal (barCell c) 0 : sProp 𝕄)) parked) $$ H
  icases H with ⟨Hs, HG⟩
  ihave HG := (Entails.of_eq (parked_all (F := F))) $$ HG
  imod (fund (Xm m) (Wm m)) $$ [Hs HG] with ⟨%K, #Hinv, Hk⟩
  · isplitl [Hs]; · iexact Hs
    iexact HG
  imodintro
  iapply (bigSep_with_persistent (S := Finset.univ) (R := invAll (Xm m) (Wm m) K) (Φ := fun c => iprop(own₀ m c ∗ kept c)) fun c _ => start_one m K c)
  isplitr; · iexact Hinv
  iapply (zip Finset.univ (own₀ m) kept)
  isplitl [Ho]; · iexact Ho
  iexact Hk

/-! ## The run -/

theorem V₂_arg0 (c : Dev nD) : V₂ m c (Proc.devRef .tc main_arg0) = m ((c : Thread nD τ).loc main_arg0) :=
  (V₂_ne m c (by decide)).trans (V_main_arg0 m c)
theorem V₂_arg1 (c : Dev nD) : V₂ m c (Proc.devRef .tc main_arg1) = m ((c : Thread nD τ).loc main_arg1) :=
  (V₂_ne m c (by decide)).trans (V_main_arg1 m c)

omit [FloatOps F] in
/-- The arguments and the result, among the buffers held. -/
theorem held_three (c : Dev nD) (W : Valuation τ sig (Elt F)) : (StableHlo.held (c : Thread nD τ) bufs W : sProp 𝕄)
    ⊢ iprop((((c : Thread nD τ).loc main_arg0) ↦{fullShare} W (Proc.devRef .tc main_arg0)) ∗ (((c : Thread nD τ).loc main_arg1) ↦{fullShare} W (Proc.devRef .tc main_arg1))
      ∗ (((c : Thread nD τ).loc main_v3) ↦{fullShare} W oRef)) := by
  have h : (StableHlo.held (c : Thread nD τ) bufs W : sProp 𝕄)
      = bigSepL [Proc.devRef .tc main_arg0, Proc.devRef .tc main_arg1, oRef, Proc.devRef .tc main_v1, Proc.devRef .tc main_cst, Proc.devRef .tc main_v2]
        (fun b : DevRef τ sig => (((c, b) : Loc nD τ sig) ↦{fullShare} W b : sProp 𝕄)) :=
    bigSep_eq_bigSepL_of_eq _ (by decide) (by decide) _
  have hc (b : DevRef τ sig) (l : List (DevRef τ sig)) (Φ : DevRef τ sig → sProp 𝕄) : bigSepL (b :: l) Φ = iprop(Φ b ∗ bigSepL l Φ) := bigSepL_cons b l Φ
  rw [h, hc, hc, hc]
  iintro ⟨H0, H1, H2, -⟩
  isplitl [H0]; · iexact H0
  isplitl [H1]; · iexact H1
  iexact H2

set_option backward.isDefEq.respectTransparency.types false in
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = outAll (Xm m) (Wm m) c) ∧ r.2.sem = fun _ => 0) :=
  Pipeline.θ_run_regions_kit_sems (pcfgs (F := F)) adm (pdats m) () cellOf_inj EP defs₀ 𝒱₀ L lv m ρ main (segs m)
    (fun c Q => by rw [Gen.main_segs adm (pdats m) () 𝒱₀ L lv (host m) (region m) rfl c])
    (by simp only [segs, Pipeline.Seg.pipes_host, Pipeline.Seg.pipes_region, Pipeline.Seg.pipes_nil]; decide)
    (O₀ := ow₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := ⟨fun c => .rfl, fun c => region_pre m c, fun c => region_post m c⟩)
    (hinit := launch_all m ρ)
    (QY := fun c s => (s.mem ((c : Thread nD τ).loc main_arg0) = V₂ m c (Proc.devRef .tc main_arg0)
      ∧ s.mem ((c : Thread nD τ).loc main_arg1) = V₂ m c (Proc.devRef .tc main_arg1)
      ∧ s.mem ((c : Thread nD τ).loc main_v3) = V₂ m c oRef) ∧ s.sem (barCell c) = 0)
    (hfin := fun c s' => by
      dsimp only [Tₙ]
      iintro ⟨⟨Hh, Hb⟩, HSI⟩
      ihave H := (held_three c (V₂ m c)) $$ Hh
      icases H with ⟨H0, H1, H2⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        exact ⟨h0.trans (V₂_arg0 m c), h1.trans (V₂_arg1 m c), h2.trans (V₂_out m c)⟩,
      sem_eq_zero hs fun c sm hsm => by
        obtain rfl := unscoped_bar sm hsm
        exact (h c).2⟩)

end Cert.KernelIdeal.Stats

end
-- ==== Proof.Same.lean ====
/-
  The program read at bits and the program read at the extended reals have one text: their body tables are equal,
  and so are their main functions. So a run of one is a run of the other.
-/
module

public import proofs.«01_k».proof.Proof.Gen.Kernel
public import proofs.«01_k».proof.Proof.Gen.KernelIdeal

@[expose] public section

noncomputable section

namespace Cert.SameText

open Idealize.ShloMosaic Idealize.SL.Sem

variable {F : FTy → Type} [FloatOps F]

/-- The kernel's body table is the same in both programs. -/
theorem bodies_eq : @Cert.KernelIdeal.defs₀ F _ _ = @Cert.Kernel.defs₀ F _ _ := by
  unfold Cert.KernelIdeal.defs₀ Cert.Kernel.defs₀
  refine congrArg Defs.onTc ?_
  funext l a
  match l, a with
  | 0, (t, s) => rfl

/-- The whole body table, the pipeline's labels included, is the same in both programs. -/
theorem defs_eq : Cert.KernelIdeal.defs (F := F) = Cert.Kernel.defs (F := F) :=
  congrArg (Pipeline.defs _) bodies_eq

/-- A run of the idealized program's text is a run of the program's own text. -/
theorem run_of {σ : MemSt Cert.Kernel.nD Cert.Kernel.τ Cert.Kernel.sig (Elt F)}
    {Q : (PUnit × MemSt Cert.Kernel.nD Cert.Kernel.τ Cert.Kernel.sig (Elt F)) → Prop}
    (h : θ_run (Cert.KernelIdeal.defs (F := F)) (onTc (τ := Cert.KernelIdeal.τ) (Cert.KernelIdeal.main (F := F))) σ Q) :
    θ_run (Cert.Kernel.defs (F := F)) (onTc (τ := Cert.Kernel.τ) (Cert.Kernel.main (F := F))) σ Q :=
  (congrArg (fun D => θ_run D (onTc (τ := Cert.Kernel.τ) (Cert.Kernel.main (F := F))) σ Q) defs_eq).mp h

end Cert.SameText

end
-- ==== Proof.Inputs.lean ====
/- What the kernel finds in its two input windows: the host's transpose of the first argument, and the second argument. -/
module

public import proofs.«01_k».proof.Proof.Run
public import Idealize.ShloMosaic.Lib.Pointwise

@[expose] public section

noncomputable section

namespace Cert.Inputs

open Idealize.ShloMosaic Idealize.ShloMosaic.TcCoe
open Cert.KernelIdeal Cert.KernelIdeal.Gen

set_option maxRecDepth 16384

variable (m : (ℓ : Loc nD τ sig) → Buf (Elt Ideal) ℓ) (c : Dev nD)

/-- The transposed first argument, as the host leaves it. -/
theorem entry_x : V m c main_v1 = (transpose S2x128x64x128 [0, 1, 3, 2] (m ((c : Thread nD τ).loc main_arg0) : FVec Ideal S2x128x128x64 .f32)
    transposes_S2x128x128x64_S2x128x64x128_0_1_3_2 : FVec Ideal S2x128x64x128 .f32) := by
  simp only [V, hostOps0]
  after_results_simp

/-- Each window's block is its whole array. -/
theorem index_zero : ∀ t : Fin cfg0.N, win0_0.index t = ![0, 0, 0, 0] ∧ win0_1.index t = ![0, 0] :=
  (by decide +kernel : ∀ t : Fin grid0.N, _)

theorem emb_x (z : S2x128x64x128.Idx) : ((cfg0.win 0).blk t0_0).view.emb z = z := by
  have h := (index_zero t0_0).1
  have e0 : win0_0.index t0_0 (0 : Fin 4) = 0 := congrFun h 0
  have e1 : win0_0.index t0_0 (1 : Fin 4) = 0 := congrFun h 1
  have e2 : win0_0.index t0_0 (2 : Fin 4) = 0 := congrFun h 2
  have e3 : win0_0.index t0_0 (3 : Fin 4) = 0 := congrFun h 3
  funext a; apply Fin.ext
  match a with
  | ⟨0, _⟩ => show win0_0.index t0_0 (0 : Fin 4) * 2 + 1 * (z 0).val = (z 0).val; omega
  | ⟨1, _⟩ => show win0_0.index t0_0 (1 : Fin 4) * 128 + 1 * (z 1).val = (z 1).val; omega
  | ⟨2, _⟩ => show win0_0.index t0_0 (2 : Fin 4) * 64 + 1 * (z 2).val = (z 2).val; omega
  | ⟨3, _⟩ => show win0_0.index t0_0 (3 : Fin 4) * 128 + 1 * (z 3).val = (z 3).val; omega

theorem emb_w (z : S64x128.Idx) : ((cfg0.win 1).blk t0_0).view.emb z = z := by
  have h := (index_zero t0_0).2
  have e0 : win0_1.index t0_0 (0 : Fin 2) = 0 := congrFun h 0
  have e1 : win0_1.index t0_0 (1 : Fin 2) = 0 := congrFun h 1
  funext a; apply Fin.ext
  match a with
  | ⟨0, _⟩ => show win0_1.index t0_0 (0 : Fin 2) * 64 + 1 * (z 0).val = (z 0).val; omega
  | ⟨1, _⟩ => show win0_1.index t0_0 (1 : Fin 2) * 128 + 1 * (z 1).val = (z 1).val; omega

/-- The first window at batch `b`, row `n`, channel `k`, lane `l`. -/
theorem x_apply (b : Fin 2) (n : Fin 128) (k : Fin 64) (l : Fin 128) :
    Stats.Xm m c (ix4 b n k l) = (m ((c : Thread nD τ).loc main_arg0) : FVec Ideal S2x128x128x64 .f32) (ix4 b n l k) := by
  have h : Stats.Xm m c (ix4 b n k l) = V m c main_v1 (((cfg0.win 0).blk t0_0).view.emb (ix4 b n k l)) := rfl
  rw [h, emb_x, entry_x]
  pointwise

/-- The second window. -/
theorem w_apply (z : S64x128.Idx) : Stats.Wm m c z = m ((c : Thread nD τ).loc main_arg1) z := by
  have h : Stats.Wm m c z = V m c main_arg1 (((cfg0.win 1).blk t0_0).view.emb z) := rfl
  rw [h, emb_w, V_main_arg1]

end Cert.Inputs

end
-- ==== Proof.KernelValue.lean ====
/- What the kernel's pure functions compute, read at an index: the two statistics of one block, their sum over the thirty-two
   slots, the mean and the reciprocal deviation, and one stretch of the result. -/
module

public import proofs.«01_k».proof.Proof.Run
public import Idealize.ShloMosaic.Lib.Pointwise

@[expose] public section

noncomputable section

namespace Cert.KernelValue

open Idealize.ShloMosaic Idealize.ShloMosaic.TcCoe
open Cert.KernelIdeal Cert.KernelIdeal.Gen

set_option maxRecDepth 16384

/-- The number of elements the statistics run over, as the program writes it. -/
abbrev cN : EReal := Ideal.ofBits .f32 0x49000000#32

/-- The number added under the root, as the program writes it. -/
abbrev cEps : EReal := Ideal.ofBits .f32 0x3727C5AC#32

/-- Dropping rows and lanes keeps batch and channel. -/
theorem drop_iff (h : S2x128x64x128.Reduces [1, 3] S2x64) (i : S2x128x64x128.Idx) (b : Fin 2) (k : Fin 64) :
    h.drop i = ix2 b k ↔ i 0 = b ∧ i 2 = k := by
  have h0 := h.drop_apply_val_of_eq i 0 0
  have h1 := h.drop_apply_val_of_eq i 1 2
  constructor
  · intro h
    rw [h] at h0 h1
    exact ⟨Fin.ext h0.symm, Fin.ext h1.symm⟩
  · rintro ⟨rfl, rfl⟩
    funext a
    match a with
    | 0 => exact Fin.ext h0
    | 1 => exact Fin.ext h1

theorem reduce_apply (h : S2x128x64x128.Reduces [1, 3] S2x64) (y : FVec Ideal S2x128x64x128 .f32) (b : Fin 2) (k : Fin 64) :
    Ideal.reduceAdd h y (ix2 b k) = ∑ p : Fin 128 × Fin 128, y (ix4 b p.1 k p.2) := by
  unfold Ideal.reduceAdd
  refine Finset.sum_nbij' (fun i => (i 1, i 3)) (fun p => ix4 b p.1 k p.2) ?_ ?_ ?_ ?_ ?_
  · intro i _; exact Finset.mem_univ _
  · intro p _
    rw [Finset.mem_filter]
    exact ⟨Finset.mem_univ _, (drop_iff h _ b k).mpr ⟨rfl, rfl⟩⟩
  · intro i hi
    obtain ⟨rfl, rfl⟩ := (drop_iff h i b k).mp (Finset.mem_filter.mp hi).2
    exact ix4_eta i
  · intro p _; rfl
  · intro i hi
    obtain ⟨rfl, rfl⟩ := (drop_iff h i b k).mp (Finset.mem_filter.mp hi).2
    exact congrArg y (ix4_eta i).symm

theorem pay2_apply (x : Vec Ideal S2x128x64x128 .f32) (b : Fin 2) (k : Fin 64) :
    k0_pay2 x (ix4 (0 : Fin 1) (0 : Fin 1) b k) = ∑ p : Fin 128 × Fin 128, (x (ix4 b p.1 k p.2) : EReal) := by
  pointwise [k0_pay2, k0_pay1]
  exact reduce_apply _ x b k

theorem pay3_apply (x : Vec Ideal S2x128x64x128 .f32) (b : Fin 2) (k : Fin 64) :
    k0_pay3 x (ix4 (0 : Fin 1) (0 : Fin 1) b k) = ∑ p : Fin 128 × Fin 128, (x (ix4 b p.1 k p.2) * x (ix4 b p.1 k p.2) : EReal) := by
  pointwise [k0_pay3, k0_pay1]
  exact reduce_apply _ (mulf x x) b k

theorem pay4_apply (s : Vec Ideal S32x2x2x64 .f32) (r b : Fin 2) (k : Fin 64) :
    k0_pay4 s (ix3 r b k) = ∑ d : Fin 32, (s (ix4 d r b k) : EReal) := by
  pointwise [k0_pay4]

theorem pay6_apply (s : FVec Ideal S2x2x64 .f32) (b : Fin 2) (k : Fin 64) :
    k0_pay6 s (ix4 b (0 : Fin 1) k (0 : Fin 1)) = Ideal.div (s (ix3 (0 : Fin 2) b k)) cN := by
  pointwise [k0_pay6, k0_pay5]

theorem pay7_apply (s : FVec Ideal S2x2x64 .f32) (b : Fin 2) (k : Fin 64) :
    k0_pay7 s (ix4 b (0 : Fin 1) k (0 : Fin 1))
      = Ideal.rsqrt (Ideal.div (s (ix3 (1 : Fin 2) b k)) cN
          - Ideal.div (s (ix3 (0 : Fin 2) b k)) cN * Ideal.div (s (ix3 (0 : Fin 2) b k)) cN + cEps) := by
  pointwise [k0_pay7, k0_pay5]

/-- The normalised and gated number. -/
def gate (x mean inv : EReal) : EReal := (x - mean) * inv * Ideal.logistic ((x - mean) * inv)

theorem pay9_apply (p q : FVec Ideal S2x1x64x1 .f32) (x : Vec Ideal S2x32x64x128 .f32) (w : Vec Ideal S64x128 .f32) (b : Fin 2) (n : Fin 32) (l o : Fin 128) :
    k0_pay9 p q x w (ix5 (0 : Fin 1) b n l o)
      = ∑ k : Fin 64, gate (x (ix4 b n k l)) (p (ix4 b (0 : Fin 1) k (0 : Fin 1))) (q (ix4 b (0 : Fin 1) k (0 : Fin 1))) * w (ix2 k o) := by
  pointwise [k0_pay9, gate]

theorem own_ix4 {n₀ n₁ n₂ n₃ : Nat} (a : Fin n₀) (b : Fin n₁) (c : Fin n₂) (d : Fin n₃) : Stats.ix4 a b c d = ix4 a b c d := by
  funext i; match i with | 0 => rfl | 1 => rfl | 2 => rfl | 3 => rfl

theorem own_ix5 {n₀ n₁ n₂ n₃ n₄ : Nat} (a : Fin n₀) (b : Fin n₁) (c : Fin n₂) (d : Fin n₃) (e : Fin n₄) : Stats.ix5 a b c d e = ix5 a b c d e := by
  funext i; match i with | 0 => rfl | 1 => rfl | 2 => rfl | 3 => rfl | 4 => rfl

variable (X : Dev nD → Vec Ideal S2x128x64x128 .f32) (Wt : Dev nD → Vec Ideal S64x128 .f32) (c : Dev nD)

/-- The sum of a channel over every device's block. -/
def sum1 (b : Fin 2) (k : Fin 64) : EReal := ∑ d : Fin 32, ∑ p : Fin 128 × Fin 128, X (c - d) (ix4 b p.1 k p.2)

/-- The sum of a channel's squares over every device's block. -/
def sum2 (b : Fin 2) (k : Fin 64) : EReal :=
  ∑ d : Fin 32, ∑ p : Fin 128 × Fin 128, X (c - d) (ix4 b p.1 k p.2) * X (c - d) (ix4 b p.1 k p.2)

theorem stat_zero (x : Vec Ideal S2x128x64x128 .f32) (b : Fin 2) (k : Fin 64) :
    Stats.stat x (Stats.ix4 (0 : Fin 1) (0 : Fin 2) b k) = ∑ p : Fin 128 × Fin 128, (x (ix4 b p.1 k p.2) : EReal) := by
  have h : Stats.stat x (Stats.ix4 (0 : Fin 1) (0 : Fin 2) b k) = k0_pay2 x (Stats.ix4 (0 : Fin 1) (0 : Fin 1) b k) := if_pos rfl
  rw [h, own_ix4]; exact pay2_apply x b k

theorem stat_one (x : Vec Ideal S2x128x64x128 .f32) (b : Fin 2) (k : Fin 64) :
    Stats.stat x (Stats.ix4 (0 : Fin 1) (1 : Fin 2) b k) = ∑ p : Fin 128 × Fin 128, (x (ix4 b p.1 k p.2) * x (ix4 b p.1 k p.2) : EReal) := by
  have h : Stats.stat x (Stats.ix4 (0 : Fin 1) (1 : Fin 2) b k) = k0_pay3 x (Stats.ix4 (0 : Fin 1) (0 : Fin 1) b k) := if_neg Nat.one_ne_zero
  rw [h, own_ix4]; exact pay3_apply x b k

theorem stats_apply_zero (b : Fin 2) (k : Fin 64) : k0_pay4 (Stats.allStat X c) (ix3 (0 : Fin 2) b k) = sum1 X c b k :=
  (pay4_apply _ _ _ _).trans (Finset.sum_congr rfl fun d _ => stat_zero (X (c - d)) b k)

theorem stats_apply_one (b : Fin 2) (k : Fin 64) : k0_pay4 (Stats.allStat X c) (ix3 (1 : Fin 2) b k) = sum2 X c b k :=
  (pay4_apply _ _ _ _).trans (Finset.sum_congr rfl fun d _ => stat_one (X (c - d)) b k)

/-- The rows of stretch `j` start at `32 j`. -/
theorem rows_emb (j : Fin 4) (b : Fin 2) (n : Fin 32) (k : Fin 64) (l : Fin 128) :
    (Stats.xR j).emb (ix4 b n k l) = ix4 b (⟨32 * j.val + n.val, by omega⟩ : Fin 128) k l := by
  funext i
  match i with
  | 0 => apply Fin.ext; simp [Stats.xR, Rect.emb, Rect.unit, ix4]
  | 1 => apply Fin.ext; simp [Stats.xR, Rect.emb, Rect.unit, ix4]
  | 2 => apply Fin.ext; simp [Stats.xR, Rect.emb, Rect.unit, ix4]
  | 3 => apply Fin.ext; simp [Stats.xR, Rect.emb, Rect.unit, ix4]

/-- The kernel's result on device `c`. -/
theorem out_apply (b : Fin 2) (n l o : Fin 128) :
    Stats.outAll X Wt c (ix4 b n l o) = ∑ k : Fin 64,
      gate (X c (ix4 b n k l)) (Ideal.div (sum1 X c b k) cN)
        (Ideal.rsqrt (Ideal.div (sum2 X c b k) cN - Ideal.div (sum1 X c b k) cN * Ideal.div (sum1 X c b k) cN + cEps)) * Wt c (ix2 k o) := by
  have h : Stats.outAll X Wt c (ix4 b n l o) = k0_pay9 (k0_pay6 (k0_pay4 (Stats.allStat X c))) (k0_pay7 (k0_pay4 (Stats.allStat X c)))
      (fun y => X c ((Stats.xR (⟨n.val / 32, by omega⟩ : Fin 4)).emb y)) (Wt c)
      (Stats.ix5 (0 : Fin 1) b (⟨n.val % 32, Nat.mod_lt _ (by decide)⟩ : Fin 32) l o) := rfl
  rw [h, own_ix5, pay9_apply]
  refine Finset.sum_congr rfl fun k _ => ?_
  rw [pay6_apply, pay7_apply, stats_apply_zero, stats_apply_one, rows_emb]
  have hn : (⟨32 * (n.val / 32) + n.val % 32, by omega⟩ : Fin 128) = n := Fin.ext (by show 32 * (n.val / 32) + n.val % 32 = n.val; omega)
  exact congrArg (fun n' => gate (X c (ix4 b n' k l)) (Ideal.div (sum1 X c b k) cN)
        (Ideal.rsqrt (Ideal.div (sum2 X c b k) cN - Ideal.div (sum1 X c b k) cN * Ideal.div (sum1 X c b k) cN + cEps)) * Wt c (ix2 k o)) hn

end Cert.KernelValue

end
-- ==== Proof.Variance.lean ====
/- The arithmetic the two programs differ by. Both take the mean and the variance of one channel's numbers; the kernel takes
   the variance as the mean of the squares less the square of the mean and multiplies by its reciprocal root, the reference
   as the mean of the squared deviations and divides by its root. On real numbers the two agree. -/
module

public import Idealize.ShloMosaic.Lib.IdealHost
public import Idealize.ShloMosaic.Lib.KernelVsHost

@[expose] public section

noncomputable section

namespace Cert.Variance

open Idealize.ShloMosaic

/-- The count is the real number 524288. -/
theorem count_val : Ideal.ofBits .f32 0x49000000#32 = ((524288 : ℝ) : EReal) := by
  simp [Ideal.ofBits, Ideal.ieee, -EReal.coe_mul]; norm_num

/-- The number added under the root is a positive real. -/
theorem eps_val : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The bound of the precondition is the top element. -/
theorem inf_val : Ideal.ofBits .f32 0x7F800000#32 = ⊤ := by
  simp [Ideal.ofBits, Ideal.ieee]

variable {ι : Type} [Fintype ι] (r : ι → ℝ)

/-- A sum of reals, read as extended reals, is the real sum. -/
theorem coe_sum : (∑ i, (r i : EReal)) = ((∑ i, r i : ℝ) : EReal) := by
  classical
  have h : ∀ s : Finset ι, (∑ i ∈ s, (r i : EReal)) = ((∑ i ∈ s, r i : ℝ) : EReal) := by
    intro s
    induction s using Finset.induction_on with
    | empty => simp
    | insert a s ha ih => rw [Finset.sum_insert ha, Finset.sum_insert ha, ih, EReal.coe_add]
  exact h _

/-- The mean of the squares less the square of the mean is the mean of the squared deviations. -/
theorem variance_eq (N : ℝ) (hN : N ≠ 0) (hc : (Fintype.card ι : ℝ) = N) :
    (∑ i, r i * r i) * (1 / N) - (∑ i, r i) * (1 / N) * ((∑ i, r i) * (1 / N))
      = (∑ i, (r i - (∑ i, r i) * (1 / N)) * (r i - (∑ i, r i) * (1 / N))) * (1 / N) := by
  set S := ∑ i, r i with hS
  have h1 : ∑ i, (r i - S * (1 / N)) * (r i - S * (1 / N)) = (∑ i, r i * r i) - 2 * (S * (1 / N)) * S + N * ((S * (1 / N)) * (S * (1 / N))) := by
    have : ∀ i, (r i - S * (1 / N)) * (r i - S * (1 / N)) = r i * r i - 2 * (S * (1 / N)) * r i + (S * (1 / N)) * (S * (1 / N)) := fun i => by ring
    rw [Finset.sum_congr rfl fun i _ => this i, Finset.sum_add_distrib, Finset.sum_sub_distrib, ← Finset.mul_sum, ← hS,
      Finset.sum_const, Finset.card_univ, nsmul_eq_mul, hc]
  rw [h1]
  field_simp
  ring

theorem div_real (x : ℝ) {y : ℝ} (hy : y ≠ 0) : Ideal.div (x : EReal) (y : EReal) = ((x * (1 / y) : ℝ) : EReal) := by
  rw [Ideal.div_coe hy, ← EReal.coe_mul]

theorem sqrt_real {v : ℝ} (hv : 0 < v) : Ideal.sqrt (v : EReal) = ((Real.sqrt v : ℝ) : EReal) := by
  show (if v < 0 then (⊥ : EReal) else _) = _
  rw [if_neg (not_lt.mpr hv.le)]

theorem rsqrt_real {v : ℝ} (hv : 0 < v) : Ideal.rsqrt (v : EReal) = (((Real.sqrt v)⁻¹ : ℝ) : EReal) := by
  show (if v < 0 then (⊥ : EReal) else if v = 0 then ⊤ else _) = _
  rw [if_neg (not_lt.mpr hv.le), if_neg hv.ne']

theorem exp_real (v : ℝ) : Ideal.exp (v : EReal) = ((Real.exp v : ℝ) : EReal) := rfl

/-- One normalised and gated number: the kernel's way and the reference's way. -/
theorem gate_eq (c e : EReal) (N ε : ℝ) (hcN : c = (N : EReal)) (hN : 0 < N) (hcard : (Fintype.card ι : ℝ) = N) (he : e = (ε : EReal)) (hε : 0 < ε)
    (x : ℝ) (h h' : EReal)
    (hh : h = ((x : EReal) - Ideal.div (∑ i, (r i : EReal)) c)
      * Ideal.rsqrt (Ideal.div (∑ i, (r i * r i : EReal)) c - Ideal.div (∑ i, (r i : EReal)) c * Ideal.div (∑ i, (r i : EReal)) c + e))
    (hh' : h' = Ideal.div ((x : EReal) - Ideal.div (∑ i, (r i : EReal)) c)
      (Ideal.sqrt (Ideal.div (∑ i, ((r i - Ideal.div (∑ i, (r i : EReal)) c) * (r i - Ideal.div (∑ i, (r i : EReal)) c) : EReal)) c + e))) :
    h * Ideal.logistic h = Ideal.div h' (1 + Ideal.exp (-h')) := by
  subst hcN he
  have hv := variance_eq r N hN.ne' hcard
  have hpos : 0 ≤ (∑ i, (r i - (∑ i, r i) * (1 / N)) * (r i - (∑ i, r i) * (1 / N))) * (1 / N) :=
    mul_nonneg (Finset.sum_nonneg fun i _ => mul_self_nonneg _) (by positivity)
  have hS := coe_sum r
  have hQ : (∑ i, (r i * r i : EReal)) = ((∑ i, r i * r i : ℝ) : EReal) := by
    rw [← coe_sum]; exact Finset.sum_congr rfl fun i _ => (EReal.coe_mul _ _).symm
  rw [hS, div_real _ hN.ne'] at hh hh'
  have hD : (∑ i, ((r i - (((∑ i, r i) * (1 / N) : ℝ) : EReal)) * (r i - (((∑ i, r i) * (1 / N) : ℝ) : EReal)) : EReal))
      = ((∑ i, (r i - (∑ i, r i) * (1 / N)) * (r i - (∑ i, r i) * (1 / N)) : ℝ) : EReal) := by
    rw [← coe_sum]; exact Finset.sum_congr rfl fun i _ => by rw [← EReal.coe_sub, ← EReal.coe_mul]
  rw [hQ, div_real _ hN.ne', ← EReal.coe_mul (_ * _), ← EReal.coe_sub (_ * _), hv, ← EReal.coe_add, ← EReal.coe_sub, rsqrt_real (by positivity), ← EReal.coe_mul] at hh
  have hroot : Real.sqrt ((∑ i, (r i - (∑ i, r i) * (1 / N)) * (r i - (∑ i, r i) * (1 / N))) * (1 / N) + ε) ≠ 0 :=
    (Real.sqrt_pos.mpr (by positivity)).ne'
  rw [hD, div_real _ hN.ne', ← EReal.coe_add, ← EReal.coe_sub, sqrt_real (by positivity), div_real _ hroot] at hh'
  have hhh : h' = h := by rw [hh', hh, one_div (Real.sqrt _)]
  obtain ⟨y, hy⟩ : ∃ y : ℝ, h = (y : EReal) := ⟨_, hh⟩
  rw [hhh, hy]
  have hden : (1 : EReal) + Ideal.exp (-(y : EReal)) = ((1 + Real.exp (-y) : ℝ) : EReal) := by
    rw [← EReal.coe_neg, exp_real, EReal.coe_add]; rfl
  have hne : (1 : EReal) + Ideal.exp (-(y : EReal)) ≠ 0 := by
    rw [hden]
    have : (1 + Real.exp (-y) : ℝ) ≠ 0 := by positivity
    exact_mod_cast this
  exact Ideal.mul_one_div hne

end Cert.Variance

end
-- ==== Proof.RefValue.lean ====
/- What the reference computes, read at an index: its composed term cut into the mean, the deviation, the variance, the
   normalised and gated array and the product, each then read at its coordinates. -/
module

public import proofs.«01_k».proof.Proof.Gen.ReferenceIdeal.Run
public import Idealize.ShloMosaic.Lib.Pointwise
public import proofs.«01_k».proof.Proof.Variance

@[expose] public section

noncomputable section

namespace Cert.RefValue

open Idealize.ShloMosaic Idealize.ShloMosaic.TcCoe
open Cert.ReferenceIdeal Cert.ReferenceIdeal.Gen

set_option maxRecDepth 16384

/-- The number of elements the statistics run over, as the program writes it. -/
abbrev cN : EReal := Ideal.ofBits .f32 0x49000000#32

/-- The number added under the root, as the program writes it. -/
abbrev cEps : EReal := Ideal.ofBits .f32 0x3727C5AC#32

/-- A channel's sum over rows and lanes. -/
abbrev total (y : FVec Ideal S2x4096x128x64 .f32) : FVec Ideal S2x64 .f32 :=
  Host.reduceAdd (F := Ideal) y (constant S_ .f32 0x00000000#32) reducesTo_S2x4096x128x64_S2x64_d1_2 h_S_

/-- A channel's mean. -/
def meanV (x : FVec Ideal S2x4096x128x64 .f32) : FVec Ideal S2x1x1x64 .f32 :=
  Host.divf (broadcastInDim S2x1x1x64 ![0, 3] bcast_S2x64_S2x1x1x64_0_3 (total x))
    (broadcastInDim S2x1x1x64 ![] bcast_S_S2x1x1x64 (constant S_ .f32 0x49000000#32))

/-- The deviation from the mean. -/
def devV (x : FVec Ideal S2x4096x128x64 .f32) : FVec Ideal S2x4096x128x64 .f32 :=
  subf x (broadcastInDim S2x4096x128x64 ![0, 1, 2, 3] bcast_S2x1x1x64_S2x4096x128x64_0_1_2_3 (meanV x))

/-- The count less the correction, which is zero. -/
def countV : FVec Ideal S_ .f32 := subf (constant S_ .f32 0x49000000#32) (sitofp .f32 (constantI S_ 32 0#32))

/-- A channel's variance. -/
def varV (x : FVec Ideal S2x4096x128x64 .f32) : FVec Ideal S2x1x1x64 .f32 :=
  select (broadcastInDim S2x1x1x64 ![] bcast_S_S2x1x1x64 (cmpf .ogt countV (constant S_ .f32 0x00000000#32)))
    (Host.divf (broadcastInDim S2x1x1x64 ![0, 3] bcast_S2x64_S2x1x1x64_0_3 (total (mulf (devV x) (devV x))))
      (broadcastInDim S2x1x1x64 ![] bcast_S_S2x1x1x64 countV))
    (broadcastInDim S2x1x1x64 ![] bcast_S_S2x1x1x64 (id (constant S_ .f32 0x7FC00000#32)))

/-- The normalised array. -/
def normV (x : FVec Ideal S2x4096x128x64 .f32) : FVec Ideal S2x4096x128x64 .f32 :=
  Host.divf (devV x) (broadcastInDim S2x4096x128x64 ![0, 1, 2, 3] bcast_S2x1x1x64_S2x4096x128x64_0_1_2_3
    (Host.sqrt (addf (varV x) (broadcastInDim S2x1x1x64 ![] bcast_S_S2x1x1x64 (constant S_ .f32 0x3727C5AC#32)))))

/-- The gated array. -/
def gateV (h : FVec Ideal S2x4096x128x64 .f32) : FVec Ideal S2x4096x128x64 .f32 :=
  Host.divf h (addf (broadcastInDim S2x4096x128x64 ![] bcast_S_S2x4096x128x64 (constant S_ .f32 0x3F800000#32)) (Host.exp (Host.negf h)))

/-- The product with the projection. -/
def projV (a : FVec Ideal S2x4096x128x64 .f32) (w : FVec Ideal S64x128 .f32) : FVec Ideal S2x4096x128x128 .f32 :=
  shapeCast _ (Host.dotGeneral dot_S1048576x64_S64x128_S1048576x128_1_0_0_1_n_n none
    (shapeCast _ a shapeCasts_S2x4096x128x64_S1048576x64) w) shapeCasts_S1048576x128_S2x4096x128x128

/-- The composed term is these stages. -/
theorem res_eq (m : (ℓ : Loc nD τ sig) → Buf (Elt Ideal) ℓ) (c : Dev nD) :
    Cert.ReferenceIdeal.Value.res_main_v19 m c
      = projV (gateV (normV (m ((c.tc : Thread nD τ).loc main_arg0)))) (m ((c.tc : Thread nD τ).loc main_arg1)) := rfl

/-- Dropping rows and lanes keeps batch and channel. -/
theorem drop_iff (i : S2x4096x128x64.Idx) (b : Fin 2) (k : Fin 64) :
    reducesTo_S2x4096x128x64_S2x64_d1_2.drop i = ix2 b k ↔ i 0 = b ∧ i 3 = k := by
  have h0 := reducesTo_S2x4096x128x64_S2x64_d1_2.drop_apply_val_of_eq i 0 0
  have h1 := reducesTo_S2x4096x128x64_S2x64_d1_2.drop_apply_val_of_eq i 1 3
  constructor
  · intro h
    rw [h] at h0 h1
    exact ⟨Fin.ext h0.symm, Fin.ext h1.symm⟩
  · rintro ⟨rfl, rfl⟩
    funext a
    match a with
    | 0 => exact Fin.ext h0
    | 1 => exact Fin.ext h1

theorem total_apply (y : FVec Ideal S2x4096x128x64 .f32) (b : Fin 2) (k : Fin 64) :
    total y (ix2 b k) = ∑ p : Fin 4096 × Fin 128, y (ix4 b p.1 p.2 k) := by
  have h : total y (ix2 b k) = Ideal.ofBits .f32 0x00000000#32
      + ∑ i ∈ Finset.univ.filter (fun i => reducesTo_S2x4096x128x64_S2x64_d1_2.drop i = ix2 b k), (y i : EReal) := rfl
  rw [h, Ideal.ofBits_zero_f32, zero_add]
  refine Finset.sum_nbij' (fun i : S2x4096x128x64.Idx => ((i 1, i 2) : Fin 4096 × Fin 128)) (fun p : Fin 4096 × Fin 128 => ix4 b p.1 p.2 k) ?_ ?_ ?_ ?_ ?_
  · intro i _; simp only [Finset.mem_univ]
  · intro p _
    rw [Finset.mem_filter]
    exact ⟨by simp only [Finset.mem_univ], (drop_iff _ b k).mpr ⟨rfl, rfl⟩⟩
  · intro i hi
    obtain ⟨rfl, rfl⟩ := (drop_iff i b k).mp (Finset.mem_filter.mp hi).2
    exact ix4_eta i
  · intro p _; rfl
  · intro i hi
    obtain ⟨rfl, rfl⟩ := (drop_iff i b k).mp (Finset.mem_filter.mp hi).2
    exact congrArg y (ix4_eta i).symm

theorem mean_apply (x : FVec Ideal S2x4096x128x64 .f32) (b : Fin 2) (k : Fin 64) :
    meanV x (ix4 b (0 : Fin 1) (0 : Fin 1) k) = Ideal.div (total x (ix2 b k)) cN := by
  pointwise [meanV]

theorem dev_apply (x : FVec Ideal S2x4096x128x64 .f32) (b : Fin 2) (n : Fin 4096) (l : Fin 128) (k : Fin 64) :
    devV x (ix4 b n l k) = x (ix4 b n l k) - meanV x (ix4 b (0 : Fin 1) (0 : Fin 1) k) := by
  pointwise [devV]

theorem var_apply (x : FVec Ideal S2x4096x128x64 .f32) (b : Fin 2) (k : Fin 64) :
    varV x (ix4 b (0 : Fin 1) (0 : Fin 1) k) = Ideal.div (total (mulf (devV x) (devV x)) (ix2 b k)) cN := by
  have h0 : (FloatOps.sitofp (F := Ideal) FTy.f32 0#32 : EReal) = 0 := by
    show (((0#32 : BitVec 32).toInt : ℝ) : EReal) = 0
    simp
  have hc : (Ideal.ofBits .f32 0x49000000#32 : EReal) - FloatOps.sitofp (F := Ideal) FTy.f32 0#32 = Ideal.ofBits .f32 0x49000000#32 := by
    rw [h0, sub_zero]
  have hp : (0 : EReal) < Ideal.ofBits .f32 0x49000000#32 := by
    rw [Variance.count_val]; exact EReal.coe_pos.mpr (by norm_num)
  pointwise [varV, countV]
  rw [hc, if_pos hp]

theorem norm_apply (x : FVec Ideal S2x4096x128x64 .f32) (b : Fin 2) (n : Fin 4096) (l : Fin 128) (k : Fin 64) :
    normV x (ix4 b n l k) = Ideal.div (devV x (ix4 b n l k)) (Ideal.sqrt (varV x (ix4 b (0 : Fin 1) (0 : Fin 1) k) + cEps)) := by
  pointwise [normV]

theorem gate_apply (h : FVec Ideal S2x4096x128x64 .f32) (b : Fin 2) (n : Fin 4096) (l : Fin 128) (k : Fin 64) :
    gateV h (ix4 b n l k) = Ideal.div (h (ix4 b n l k)) (1 + Ideal.exp (-(h (ix4 b n l k)))) := by
  pointwise [gateV]

theorem proj_apply (a : FVec Ideal S2x4096x128x64 .f32) (w : FVec Ideal S64x128 .f32) (b : Fin 2) (n : Fin 4096) (l o : Fin 128) :
    projV a w (ix4 b n l o) = ∑ k : Fin 64, a (ix4 b n l k) * w (ix2 k o) := by
  pointwise [projV]

end Cert.RefValue

end
-- ==== Proof.Equal.lean ====
/- On finite inputs the kernel's result on each device is that device's block of the reference's result: the sums over
   devices and rows are the sums over all rows, and then the arithmetic of Variance.lean. -/
module

public import proofs.«01_k».proof.Proof.Inputs
public import proofs.«01_k».proof.Proof.KernelValue
public import proofs.«01_k».proof.Proof.RefValue
public import proofs.«01_k».proof.Proof.Variance
public import Idealize.ShloMosaic.Lib.Layout

@[expose] public section

noncomputable section

namespace Cert.Equal

open Idealize.ShloMosaic Idealize.ShloMosaic.TcCoe

set_option maxRecDepth 16384

/-- Row `n` of device `c`'s block among all rows. -/
def row (c : Fin 32) (n : Fin 128) : Fin 4096 := ⟨128 * c.val + n.val, by omega⟩

/-- Summing the devices' blocks, counted back from device `c`, sums all rows. -/
theorem sum_rows (c : Fin 32) (g : Fin 4096 → Fin 128 → EReal) :
    ∑ d : Fin 32, ∑ p : Fin 128 × Fin 128, g (row (c - d) p.1) p.2 = ∑ q : Fin 4096 × Fin 128, g q.1 q.2 := by
  have h1 : ∑ d : Fin 32, ∑ p : Fin 128 × Fin 128, g (row (c - d) p.1) p.2 = ∑ d : Fin 32, ∑ p : Fin 128 × Fin 128, g (row d p.1) p.2 :=
    Equiv.sum_comp (Equiv.subLeft c) fun d => ∑ p : Fin 128 × Fin 128, g (row d p.1) p.2
  have h2 : ∑ d : Fin 32, ∑ p : Fin 128 × Fin 128, g (row d p.1) p.2 = ∑ d : Fin 32, ∑ n : Fin 128, ∑ l : Fin 128, g (row d n) l :=
    Finset.sum_congr rfl fun d _ => Fintype.sum_prod_type _
  have h3 : ∑ d : Fin 32, ∑ n : Fin 128, ∑ l : Fin 128, g (row d n) l = ∑ e : Fin 32 × Fin 128, ∑ l : Fin 128, g (row e.1 e.2) l :=
    (Fintype.sum_prod_type (fun e : Fin 32 × Fin 128 => ∑ l : Fin 128, g (row e.1 e.2) l)).symm
  have h4 : ∑ e : Fin 32 × Fin 128, ∑ l : Fin 128, g (row e.1 e.2) l = ∑ N : Fin 4096, ∑ l : Fin 128, g N l := by
    refine Fintype.sum_equiv (finProdFinEquiv (m := 32) (n := 128)) _ (fun N : Fin 4096 => ∑ l : Fin 128, g N l) fun e => ?_
    have he : row e.1 e.2 = (finProdFinEquiv e : Fin (32 * 128)) := Fin.ext (by
      show 128 * e.1.val + e.2.val = (finProdFinEquiv e : Fin (32 * 128)).val
      rw [finProdFinEquiv_apply_val]; omega)
    exact congrArg (fun N : Fin 4096 => ∑ l : Fin 128, g N l) he
  rw [h1, h2, h3, h4, Fintype.sum_prod_type]

variable (X : Dev Cert.KernelIdeal.nD → Vec Ideal Cert.KernelIdeal.S2x128x64x128 .f32) (Wt : Dev Cert.KernelIdeal.nD → Vec Ideal Cert.KernelIdeal.S64x128 .f32)
  (x : FVec Ideal Cert.ReferenceIdeal.S2x4096x128x64 .f32) (W : FVec Ideal Cert.ReferenceIdeal.S64x128 .f32)

/-- The normalised and gated numbers agree. -/
theorem gate_eq (hX : ∀ (c : Fin 32) (b : Fin 2) (n : Fin 128) (k : Fin 64) (l : Fin 128), X c (ix4 b n k l) = x (ix4 b (row c n) l k))
    (r : Cert.ReferenceIdeal.S2x4096x128x64.Idx → ℝ) (hr : ∀ i, x i = ((r i : ℝ) : EReal))
    (c : Fin 32) (b : Fin 2) (n l : Fin 128) (k : Fin 64) :
    KernelValue.gate (X c (ix4 b n k l)) (Ideal.div (KernelValue.sum1 X c b k) KernelValue.cN)
        (Ideal.rsqrt (Ideal.div (KernelValue.sum2 X c b k) KernelValue.cN
          - Ideal.div (KernelValue.sum1 X c b k) KernelValue.cN * Ideal.div (KernelValue.sum1 X c b k) KernelValue.cN + KernelValue.cEps))
      = RefValue.gateV (RefValue.normV x) (ix4 b (row c n) l k) := by
  obtain ⟨ε, hε, he⟩ := Variance.eps_val
  have s1 : KernelValue.sum1 X c b k = ∑ q : Fin 4096 × Fin 128, ((r (ix4 b q.1 q.2 k) : ℝ) : EReal) := by
    refine Eq.trans ?_ (sum_rows c fun N l => ((r (ix4 b N l k) : ℝ) : EReal))
    exact Finset.sum_congr rfl fun d _ => Finset.sum_congr rfl fun p _ => (hX (c - d) b p.1 k p.2).trans (hr _)
  have s2 : KernelValue.sum2 X c b k = ∑ q : Fin 4096 × Fin 128, ((r (ix4 b q.1 q.2 k) : ℝ) * (r (ix4 b q.1 q.2 k) : ℝ) : EReal) := by
    refine Eq.trans ?_ (sum_rows c fun N l => ((r (ix4 b N l k) : ℝ) * (r (ix4 b N l k) : ℝ) : EReal))
    refine Finset.sum_congr rfl fun d _ => Finset.sum_congr rfl fun p _ => ?_
    rw [show X (c - d) (ix4 b p.1 k p.2) = _ from (hX (c - d) b p.1 k p.2).trans (hr _)]
  have t1 : RefValue.total x (ix2 b k) = ∑ q : Fin 4096 × Fin 128, ((r (ix4 b q.1 q.2 k) : ℝ) : EReal) :=
    (RefValue.total_apply x b k).trans (Finset.sum_congr rfl fun q _ => hr _)
  have dv : ∀ (N : Fin 4096) (l : Fin 128), RefValue.devV x (ix4 b N l k)
      = ((r (ix4 b N l k) : ℝ) : EReal) - Ideal.div (∑ q : Fin 4096 × Fin 128, ((r (ix4 b q.1 q.2 k) : ℝ) : EReal)) RefValue.cN := fun N l => by
    rw [RefValue.dev_apply, RefValue.mean_apply, t1, hr]
  have t2 : RefValue.total (mulf (RefValue.devV x) (RefValue.devV x)) (ix2 b k) = ∑ q : Fin 4096 × Fin 128,
      (((r (ix4 b q.1 q.2 k) : ℝ) : EReal) - Ideal.div (∑ q : Fin 4096 × Fin 128, ((r (ix4 b q.1 q.2 k) : ℝ) : EReal)) RefValue.cN)
        * (((r (ix4 b q.1 q.2 k) : ℝ) : EReal) - Ideal.div (∑ q : Fin 4096 × Fin 128, ((r (ix4 b q.1 q.2 k) : ℝ) : EReal)) RefValue.cN) :=
    (RefValue.total_apply _ b k).trans (Finset.sum_congr rfl fun q _ => by rw [← dv q.1 q.2]; rfl)
  rw [RefValue.gate_apply, RefValue.norm_apply, RefValue.var_apply, t2, dv, s1, s2, hX, hr]
  exact Variance.gate_eq (fun q : Fin 4096 × Fin 128 => r (ix4 b q.1 q.2 k)) _ _ 524288 ε Variance.count_val (by norm_num)
    (by rw [Fintype.card_prod, Fintype.card_fin, Fintype.card_fin]; norm_num) he hε _ _ _ rfl rfl

/-- The kernel's result at an element. -/
theorem out_eq (hX : ∀ (c : Fin 32) (b : Fin 2) (n : Fin 128) (k : Fin 64) (l : Fin 128), X c (ix4 b n k l) = x (ix4 b (row c n) l k))
    (hW : ∀ c z, Wt c z = W z) (hfin : ∀ i, ∃ v : ℝ, x i = (v : EReal)) (c : Fin 32) (b : Fin 2) (n l o : Fin 128) :
    Cert.KernelIdeal.Stats.outAll X Wt c (ix4 b n l o) = RefValue.projV (RefValue.gateV (RefValue.normV x)) W (ix4 b (row c n) l o) := by
  choose r hr using hfin
  rw [KernelValue.out_apply, RefValue.proj_apply]
  exact Finset.sum_congr rfl fun k _ => by rw [gate_eq X x hX r hr c b n l k, hW]

end Cert.Equal

end
-- ==== Proof.Finite.lean ====
/- The precondition and the layout, as the comparison of results uses them: an element the precondition admits is a real
   number, and a device's block holds a stretch of rows of the whole array. -/
module

public import proofs.«01_k».proof.Pre_finite_KernelIdeal
public import proofs.«01_k».proof.Proof.Equal

@[expose] public section

noncomputable section

namespace Cert.Finite

open Idealize.ShloMosaic Idealize.ShloMosaic.TcCoe

set_option maxRecDepth 16384

/-- What the precondition says of an element: it is a real number. -/
theorem real_of_pre [hF : Cert.Pre_finite_KernelIdeal.Facts] (x : FVec Ideal Cert.Pre_finite_KernelIdeal.S2x128x128x64 .f32)
    (w : FVec Ideal Cert.Pre_finite_KernelIdeal.S64x128 .f32)
    (h : Cert.Pre_finite_KernelIdeal.fn x w = fun _ => 1#1) (i : Cert.Pre_finite_KernelIdeal.S2x128x128x64.Idx) :
    ∃ v : ℝ, x i = (v : EReal) := by
  have h1 := congrFun h i
  unfold Cert.Pre_finite_KernelIdeal.fn at h1
  pointwise at h1
  rw [Variance.inf_val] at h1
  have h2 : max (x i : EReal) (-(x i)) < ⊤ := by
    by_contra hn
    rw [show (FloatOps.absf (x i) : EReal) = max (x i : EReal) (-(x i)) from rfl, decide_eq_false hn] at h1
    exact absurd h1 (by decide)
  rw [max_lt_iff] at h2
  have hb : (x i : EReal) ≠ ⊥ := fun hx => by
    rw [hx, EReal.neg_bot] at h2
    exact lt_irrefl _ h2.2
  exact ⟨(x i : EReal).toReal, (EReal.coe_toReal h2.1.ne hb).symm⟩

/-- An element of a device's block is the whole array's at that row of the device's stretch. -/
theorem block_apply {D : Nat} {α : Type} (c : Fin 32) (v : (⟨4, ![2, 4096, 128, D]⟩ : Shape).Idx → α)
    (h : Layout.Tiles ⟨4, ![2, 128, 128, D]⟩ ⟨4, ![2, 4096, 128, D]⟩ 1 32) (b : Fin 2) (n l : Fin 128) (k : Fin D) :
    Layout.block ⟨4, ![2, 128, 128, D]⟩ ⟨4, ![2, 4096, 128, D]⟩ 1 32 c v h (ix4 b n l k) = v (ix4 b (Equal.row c n) l k) := by
  refine congrArg v (funext fun a => Fin.ext ?_)
  match a with
  | ⟨0, _⟩ => rfl
  | ⟨1, _⟩ => exact congrArg (· + n.val) (Nat.mul_comm c.val 128)
  | ⟨2, _⟩ => rfl
  | ⟨3, _⟩ => rfl

/-- If every block is real so is the whole array. -/
theorem real_of_blocks (v : FVec Ideal Cert.ReferenceIdeal.S2x4096x128x64 .f32)
    (h : ∀ (c : Fin 32) (b : Fin 2) (n l : Fin 128) (k : Fin 64), ∃ r : ℝ, v (ix4 b (Equal.row c n) l k) = (r : EReal))
    (i : Cert.ReferenceIdeal.S2x4096x128x64.Idx) : ∃ r : ℝ, v i = (r : EReal) := by
  have hi : i = ix4 (i 0) (i 1) (i 2) (i 3) := (ix4_eta i).symm
  have h4096 : (i 1).val < 4096 := (i 1).isLt
  have hrow : Equal.row ⟨(i 1).val / 128, by omega⟩ ⟨(i 1).val % 128, Nat.mod_lt _ (by decide)⟩ = (i 1 : Fin 4096) :=
    Fin.ext (by show 128 * ((i 1).val / 128) + (i 1).val % 128 = (i 1).val; omega)
  obtain ⟨r, hr⟩ := h ⟨(i 1).val / 128, by omega⟩ (i 0) ⟨(i 1).val % 128, Nat.mod_lt _ (by decide)⟩ (i 2) (i 3)
  rw [hrow] at hr
  exact ⟨r, (congrArg v hi).trans hr⟩

end Cert.Finite

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Equal
public import proofs.«01_k».proof.Proof.Finite
public import Idealize.ShloMosaic.Adequacy
public import Idealize.ShloMosaic.Init

@[expose] public section

noncomputable section

namespace Cert.Proof

open Idealize.ShloMosaic Idealize.SL.Sem

/-- The kernel over bits: it terminates, keeps its arguments and leaves every counter at zero. -/
theorem frame_kernel : Cert.quiescent_Kernel (hKernel := Cert.Kernel.Gen.facts) := fun m ρ _ =>
  Cert.SameText.run_of ((θ_run Cert.KernelIdeal.defs _ _).mono
    (fun _ h => ⟨fun c => ⟨(h.1 c).1, (h.1 c).2.1⟩, h.2⟩) (Cert.KernelIdeal.Stats.run_main (F := Bits) m ρ))

/-- The same over the extended reals. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩)
    (Cert.KernelIdeal.Stats.run_main (F := Ideal) m ρ)

/-- The reference: host operations only, so there is no counter to look at. -/
theorem frame_reference : Cert.quiescent_ReferenceIdeal (hReferenceIdeal := Cert.ReferenceIdeal.Gen.facts) := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- What the precondition's printed forms ask of the shapes. -/
theorem facts_block : Cert.Pre_finite_KernelIdeal.Facts := ⟨by decide⟩
theorem facts_whole : Cert.Pre_finite_ReferenceIdeal.Facts := ⟨by decide⟩

section Values

open Idealize.ShloMosaic.TcCoe

/-- From finite arguments the kernel leaves on each device that device's block of what the reference leaves. -/
theorem values : Cert.algebraic_KernelIdeal_ReferenceIdeal_pre_finite_KernelIdeal (hKernelIdeal := Cert.KernelIdeal.Gen.facts)
    (hReferenceIdeal := Cert.ReferenceIdeal.Gen.facts) (hPre_finite_KernelIdeal := facts_block) := fun m g m' g' hpre hagree => by
  have hX : ∀ (c : Fin 32) (b : Fin 2) (n : Fin 128) (k : Fin 64) (l : Fin 128),
      Cert.KernelIdeal.Stats.Xm m c (ix4 b n k l) = (m' (((0 : Dev Cert.ReferenceIdeal.nD).tc : Thread Cert.ReferenceIdeal.nD Cert.ReferenceIdeal.τ).loc Cert.ReferenceIdeal.main_arg0)
        : FVec Ideal Cert.ReferenceIdeal.S2x4096x128x64 .f32) (ix4 b (Cert.Equal.row c n) l k) := fun c b n k l =>
    (Cert.Inputs.x_apply m c b n k l).trans ((congrFun (hagree c).1 (ix4 b n l k)).trans (Cert.Finite.block_apply c _ _ b n l k))
  have hW : ∀ (c : Fin 32) z, Cert.KernelIdeal.Stats.Wm m c z = (m' (((0 : Dev Cert.ReferenceIdeal.nD).tc : Thread Cert.ReferenceIdeal.nD Cert.ReferenceIdeal.τ).loc Cert.ReferenceIdeal.main_arg1)
        : FVec Ideal Cert.ReferenceIdeal.S64x128 .f32) z := fun c z =>
    (Cert.Inputs.w_apply m c z).trans (congrFun (hagree c).2 z)
  have hfin := Cert.Finite.real_of_blocks (m' (((0 : Dev Cert.ReferenceIdeal.nD).tc : Thread Cert.ReferenceIdeal.nD Cert.ReferenceIdeal.τ).loc Cert.ReferenceIdeal.main_arg0))
    fun c b n l k => by
      obtain ⟨r, hr⟩ := Cert.Finite.real_of_pre (hF := facts_block) _ _ (hpre c) (ix4 b n l k)
      exact ⟨r, (((congrFun (hagree c).1 (ix4 b n l k)).trans (Cert.Finite.block_apply c _ _ b n l k)).symm).trans hr⟩
  refine ⟨Cert.ReferenceIdeal.Value.res_out0 m' 0, ?_, ?_⟩
  · refine (θ_run Cert.KernelIdeal.defs _ _).mono (fun r h c => ⟨(h.1 c).2.2.trans ?_, (h.1 c).1, (h.1 c).2.1⟩)
      (Cert.KernelIdeal.Stats.run_main (F := Ideal) m g)
    funext i
    have hi : i = ix4 (i 0) (i 1) (i 2) (i 3) := (ix4_eta i).symm
    rw [hi]
    refine (Cert.Equal.out_eq _ _ _ _ hX hW hfin c (i 0) (i 1) (i 2) (i 3)).trans ?_
    refine Eq.trans ?_ (Cert.Finite.block_apply c _ _ (i 0) (i 1) (i 2) (i 3)).symm
    exact (congrFun (Cert.RefValue.res_eq m' 0) _).symm
  · exact (θ_run Cert.ReferenceIdeal.defs _ _).mono (fun r h => h 0) (Cert.ReferenceIdeal.Value.run (F := Ideal) m' g')

end Values

/-- All the claims. -/
theorem claim : Cert.Claim := ⟨Cert.Kernel.Gen.facts, Cert.KernelIdeal.Gen.facts, Cert.ReferenceIdeal.Gen.facts, facts_block, facts_whole,
  frame_kernel, frame_ideal, fun m ρ _ => frame_ideal m ρ trivial, frame_reference, fun m ρ _ => frame_reference m ρ trivial, trivial, values⟩

end Cert.Proof

end
